-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩
abbrev S256x1024 : Shape := ⟨2, ![256, 1024]⟩
abbrev S8x128x1024 : Shape := ⟨3, ![8, 128, 1024]⟩
abbrev S4096x32x128 : Shape := ⟨3, ![4096, 32, 128]⟩
abbrev S4096x8x128 : Shape := ⟨3, ![4096, 8, 128]⟩
abbrev S16x4x64x8x128 : Shape := ⟨5, ![16, 4, 64, 8, 128]⟩
abbrev S4x8x16x64x128 : Shape := ⟨5, ![4, 8, 16, 64, 128]⟩
abbrev S4x8x1024x128 : Shape := ⟨4, ![4, 8, 1024, 128]⟩
abbrev S3x256x1024 : Shape := ⟨3, ![3, 256, 1024]⟩
abbrev S3 : Shape := ⟨1, ![3]⟩
abbrev S1 : Shape := ⟨1, ![1]⟩
abbrev S256x8x128 : Shape := ⟨3, ![256, 8, 128]⟩
abbrev S64x8x128 : Shape := ⟨3, ![64, 8, 128]⟩
abbrev S1x8x1024x128 : Shape := ⟨4, ![1, 8, 1024, 128]⟩
abbrev S8x1024x128 : Shape := ⟨3, ![8, 1024, 128]⟩
abbrev S8x64x1024 : Shape := ⟨3, ![8, 64, 1024]⟩
abbrev S8x64 : Shape := ⟨2, ![8, 64]⟩
abbrev S8x64x1 : Shape := ⟨3, ![8, 64, 1]⟩
abbrev S8x64x128 : Shape := ⟨3, ![8, 64, 128]⟩
abbrev S64x1024 : Shape := ⟨2, ![64, 1024]⟩

abbrev nBuf : Space → Nat
  | .hbm => 43
  | .vmem => 9
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x32x128, .bf16⟩
  | .hbm, ⟨3, _⟩ => ⟨S1x4096x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x1024, .bf16⟩
  | .hbm, ⟨12, _⟩ => ⟨S8x128x1024, .bf16⟩
  | .hbm, ⟨13, _⟩ => ⟨S4096x32x128, .bf16⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S4096x8x128, .bf16⟩
  | .hbm, ⟨24, _⟩ => ⟨S16x4x64x8x128, .bf16⟩
  | .hbm, ⟨25, _⟩ => ⟨S4x8x16x64x128, .bf16⟩
  | .hbm, ⟨26, _⟩ => ⟨S4x8x1024x128, .bf16⟩
  | .hbm, ⟨27, _⟩ => ⟨S4096x32x128, .bf16⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S4096x8x128, .bf16⟩
  | .hbm, ⟨38, _⟩ => ⟨S16x4x64x8x128, .bf16⟩
  | .hbm, ⟨39, _⟩ => ⟨S4x8x16x64x128, .bf16⟩
  | .hbm, ⟨40, _⟩ => ⟨S4x8x1024x128, .bf16⟩
  | .hbm, ⟨41, _⟩ => ⟨S256x1024, .f32⟩
  | .hbm, ⟨42, _⟩ => ⟨S1x256x1024, .f32⟩
  | .local _ .vmem, ⟨0, _⟩ => ⟨S256x1024, .bf16⟩
  | .local _ .vmem, ⟨1, _⟩ => ⟨S1024x1024, .bf16⟩
  | .local _ .vmem, ⟨2, _⟩ => ⟨S4x8x1024x128, .bf16⟩
  | .local _ .vmem, ⟨3, _⟩ => ⟨S4x8x1024x128, .bf16⟩
  | .local _ .vmem, ⟨4, _⟩ => ⟨S8x128x1024, .bf16⟩
  | .local _ .vmem, ⟨5, _⟩ => ⟨S256x1024, .f32⟩
  | .local _ .vmem, ⟨6, _⟩ => ⟨S3x256x1024, .bf16⟩
  | .local _ .vmem, ⟨7, _⟩ => ⟨S3x256x1024, .bf16⟩
  | .local _ .vmem, ⟨8, _⟩ => ⟨S3x256x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_6 : Ref sig .tc := ⟨.hbm, 28, rfl⟩
abbrev main_v17 : Ref sig .tc := ⟨.hbm, 29, rfl⟩
abbrev main_c_7 : Ref sig .tc := ⟨.hbm, 30, rfl⟩
abbrev main_v18 : Ref sig .tc := ⟨.hbm, 31, rfl⟩
abbrev main_c_8 : Ref sig .tc := ⟨.hbm, 32, rfl⟩
abbrev main_v19 : Ref sig .tc := ⟨.hbm, 33, rfl⟩
abbrev main_v20 : Ref sig .tc := ⟨.hbm, 34, rfl⟩
abbrev main_c_9 : Ref sig .tc := ⟨.hbm, 35, rfl⟩
abbrev main_c_10 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_100 : BitVec 32 := 1#32
  let v131 : BitVec 32 := Scalar.muli v7 c1_i32_100
  let v132 : BitVec 32 := Scalar.addi c0_i32_101 v131
  v132.toNat
def k0_dev5 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_191 : BitVec 32 := 1#32
  let v249 : BitVec 32 := Scalar.muli v7 c1_i32_191
  let v250 : BitVec 32 := Scalar.addi c0_i32_192 v249
  v250.toNat
def k0_dev6 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_211 : BitVec 32 := 1#32
  let v267 : BitVec 32 := Scalar.muli v7 c1_i32_211
  let v268 : BitVec 32 := Scalar.addi c0_i32_212 v267
  v268.toNat
def k0_dev7 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_315 : BitVec 32 := 1#32
  let v397 : BitVec 32 := Scalar.muli v7 c1_i32_315
  let v398 : BitVec 32 := Scalar.addi c0_i32_316 v397
  v398.toNat
def k0_dev8 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_429 : BitVec 32 := 1#32
  let v535 : BitVec 32 := Scalar.muli v7 c1_i32_429
  let v536 : BitVec 32 := Scalar.addi c0_i32_430 v535
  v536.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 142
  | .vmem => 0
  | .smem => 0
  | _ => 0

abbrev hbmTy0_0 (i : Nat) : BufTy := match i % 128 with
  | 0 => ⟨S1x1024x1024, .bf16⟩
  | 1 => ⟨S1024x4096, .bf16⟩
  | 2 => ⟨S1x4096x32x128, .bf16⟩
  | 3 => ⟨S1x4096x32x128, .bf16⟩
  | 4 => ⟨S4096x1024, .bf16⟩
  | 5 => ⟨S1x1024x4096, .f32⟩
  | 6 => ⟨S1x1024x4096, .bf16⟩
  | 7 => ⟨S1x1024x32x128, .bf16⟩
  | 8 => ⟨S1024, .i32⟩
  | 9 => ⟨S_, .i32⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S1024, .i32⟩
  | 18 => ⟨S1024, .i32⟩
  | 19 => ⟨S_, .i32⟩
  | 20 => ⟨S1024, .i32⟩
  | 21 => ⟨S1024, .i1⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S4096, .i32⟩
  | 29 => ⟨S_, .i32⟩
  | 30 => ⟨S_, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i1⟩
  | 37 => ⟨S4096, .i32⟩
  | 38 => ⟨S4096, .i32⟩
  | 39 => ⟨S_, .i32⟩
  | 40 => ⟨S4096, .i32⟩
  | 41 => ⟨S4096, .i1⟩
  | 42 => ⟨S4096, .i1⟩
  | 43 => ⟨S_, .i32⟩
  | 44 => ⟨S4096, .i32⟩
  | 45 => ⟨S4096, .i32⟩
  | 46 => ⟨S4096, .i32⟩
  | 47 => ⟨S1x4096, .i32⟩
  | 48 => ⟨S1024x4096, .i32⟩
  | 49 => ⟨S1024x4096, .i32⟩
  | 50 => ⟨S1024x4096, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x4096, .i32⟩
  | 58 => ⟨S1x4096, .i32⟩
  | 59 => ⟨S_, .i32⟩
  | 60 => ⟨S1x4096, .i32⟩
  | 61 => ⟨S1x4096, .i1⟩
  | 62 => ⟨S_, .i32⟩
  | 63 => ⟨S1x4096, .i32⟩
  | 64 => ⟨S1x4096, .i1⟩
  | 65 => ⟨S_, .i32⟩
  | 66 => ⟨S_, .i1⟩
  | 67 => ⟨S1x4096, .i1⟩
  | 68 => ⟨S1x4096, .i1⟩
  | 69 => ⟨S1x4096, .i1⟩
  | 70 => ⟨S1x4096, .i32⟩
  | 71 => ⟨S1x4096, .i32⟩
  | 72 => ⟨S1x4096, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1024x1, .i32⟩
  | 80 => ⟨S1024x1, .i32⟩
  | 81 => ⟨S_, .i32⟩
  | 82 => ⟨S1024x1, .i32⟩
  | 83 => ⟨S1024x1, .i1⟩
  | 84 => ⟨S_, .i32⟩
  | 85 => ⟨S1024x1, .i32⟩
  | 86 => ⟨S1024x1, .i1⟩
  | 87 => ⟨S_, .i32⟩
  | 88 => ⟨S_, .i1⟩
  | 89 => ⟨S1024x1, .i1⟩
  | 90 => ⟨S1024x1, .i1⟩
  | 91 => ⟨S1024x1, .i1⟩
  | 92 => ⟨S1024x1, .i32⟩
  | 93 => ⟨S1024x1, .i32⟩
  | 94 => ⟨S1024x1, .i32⟩
  | 95 => ⟨S1024x4096, .i32⟩
  | 96 => ⟨S1024x4096, .i32⟩
  | 97 => ⟨S1024x4096, .i1⟩
  | 98 => ⟨S1024x4096, .i1⟩
  | 99 => ⟨S1x32x1024x4096, .f32⟩
  | 100 => ⟨S1x32x1024x4096, .bf16⟩
  | 101 => ⟨S1x32x1024x4096, .f32⟩
  | 102 => ⟨S_, .f32⟩
  | 103 => ⟨S1x32x1024x4096, .f32⟩
  | 104 => ⟨S1x32x1024x4096, .f32⟩
  | 105 => ⟨S1x1x1024x4096, .i1⟩
  | 106 => ⟨S_, .f32⟩
  | 107 => ⟨S_, .f32⟩
  | 108 => ⟨S1x32x1024x4096, .i1⟩
  | 109 => ⟨S1x32x1024x4096, .f32⟩
  | 110 => ⟨S1x32x1024x4096, .f32⟩
  | 111 => ⟨S_, .f32⟩
  | 112 => ⟨S1x32x1024, .f32⟩
  | 113 => ⟨S1x32x1024x1, .f32⟩
  | 114 => ⟨S1x32x1024x4096, .f32⟩
  | 115 => ⟨S1x32x1024x4096, .f32⟩
  | 116 => ⟨S1x32x1024x4096, .f32⟩
  | 117 => ⟨S_, .i1⟩
  | 118 => ⟨S1024, .i1⟩
  | 119 => ⟨S1x1x1024x1, .i1⟩
  | 120 => ⟨S_, .f32⟩
  | 121 => ⟨S1x32x1024, .f32⟩
  | 122 => ⟨S1x32x1024x1, .f32⟩
  | 123 => ⟨S_, .f32⟩
  | 124 => ⟨S_, .f32⟩
  | 125 => ⟨S1x32x1024x1, .i1⟩
  | 126 => ⟨S1x32x1024x1, .f32⟩
  | 127 => ⟨S1x32x1024x1, .f32⟩
  | _ => ⟨S1x1024x1024, .bf16⟩

abbrev hbmTy0_1 (i : Nat) : BufTy := match i % 128 with
  | 0 => ⟨S1x32x1024x4096, .f32⟩
  | 1 => ⟨S1x32x1024x4096, .f32⟩
  | 2 => ⟨S1x1x1024x4096, .i1⟩
  | 3 => ⟨S_, .f32⟩
  | 4 => ⟨S_, .f32⟩
  | 5 => ⟨S1x32x1024x4096, .i1⟩
  | 6 => ⟨S1x32x1024x4096, .f32⟩
  | 7 => ⟨S1x32x1024x4096, .f32⟩
  | 8 => ⟨S1x4096x32x128, .f32⟩
  | 9 => ⟨S1x32x128x1024, .f32⟩
  | 10 => ⟨S1x1024x32x128, .f32⟩
  | 11 => ⟨S1x1024x4096, .f32⟩
  | 12 => ⟨S4096x1024, .f32⟩
  | 13 => ⟨S1x1024x1024, .f32⟩
  | _ => ⟨S1x1024x1024, .bf16⟩

abbrev hbmTy (i : Nat) : BufTy := match i / 128 with
  | 0 => hbmTy0_0 i
  | 1 => hbmTy0_1 i
  | _ => ⟨S1x1024x1024, .bf16⟩

abbrev bufTy : (tb : Table) → Fin (tcTables nBuf tb) → BufTy
  | .hbm, ⟨i, _⟩ => hbmTy i
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.KernelIdeal.Values.lean ====
/-
# What the kernel computes, from what each device's five input blocks hold

The four devices' inputs as families over the devices, and the buffers' contents as functions of them: the
contribution a device makes to a row block is written with the printed payloads, so nothing of the arithmetic
is looked at here.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## The ring of four devices -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide

/-- The step to the right as a permutation of the devices. -/
def ring : Dev nD ≃ Dev nD := ⟨nxt, prv, prv_nxt, nxt_prv⟩

/-! ## Blocks of the inputs -/

/-- The five blocks each device's kernel is given: its rows of the activations, its columns of the query weights,
    its heads' keys and values, its rows of the output weights. -/
structure Ins (F : FTy → Type) where
  /-- the activations' rows -/
  x : Dev nD → FVec F S256x1024 .bf16
  /-- the query weights' columns -/
  wq : Dev nD → FVec F S1024x1024 .bf16
  /-- the keys, by class of rows -/
  k : Dev nD → FVec F S4x8x1024x128 .bf16
  /-- the values, by class of rows -/
  v : Dev nD → FVec F S4x8x1024x128 .bf16
  /-- the output weights' rows -/
  wo : Dev nD → FVec F S8x128x1024 .bf16

/-- The class-`j` part of a key or value block, as the kernel loads it. -/
abbrev cls (off : Fin 4 → ℕ) (inb : ∀ a, off a + S1x8x1024x128.size a ≤ S4x8x1024x128.size a)
    (f : FVec F S4x8x1024x128 .bf16) : FVec F S1x8x1024x128 .bf16 :=
  (Memref.whole cc0_stg2_0).view.readAt (Elt F) (Rect.unit (s := S4x8x1024x128) off S1x8x1024x128.size inb).toLoadRect f

abbrev cls0 (f : FVec F S4x8x1024x128 .bf16) := cls ![0, 0, 0, 0] inb_S4x8x1024x128_S1x8x1024x128_0_0_0_0 f
abbrev cls1 (f : FVec F S4x8x1024x128 .bf16) := cls ![1, 0, 0, 0] inb_S4x8x1024x128_S1x8x1024x128_1_0_0_0 f
abbrev cls2 (f : FVec F S4x8x1024x128 .bf16) := cls ![2, 0, 0, 0] inb_S4x8x1024x128_S1x8x1024x128_2_0_0_0 f
abbrev cls3 (f : FVec F S4x8x1024x128 .bf16) := cls ![3, 0, 0, 0] inb_S4x8x1024x128_S1x8x1024x128_3_0_0_0 f

/-- A block of rows as it lies in a slot of a three-slot buffer. -/
abbrev up (x : FVec F S256x1024 .bf16) : FVec F S1x256x1024 .bf16 := shapeCast S1x256x1024 x shapeCasts_S256x1024_S1x256x1024

/-! ## The four contributions, as the body's payloads compute them -/

section Pieces

variable (wq : FVec F S1024x1024 .bf16) (k v : FVec F S4x8x1024x128 .bf16) (wo : FVec F S8x128x1024 .bf16)

/-- A device's contribution to its own rows. -/
def own (x : FVec F S256x1024 .bf16) : FVec F S256x1024 .f32 :=
  k0_pay6 (k0_pay1 x wq) (k0_pay2 (k0_pay1 x wq) (cls0 k) (cls0 v) wo)
    (k0_pay4 (k0_pay3 (k0_pay1 x wq) (cls1 k)) (cls1 v) wo)
    (k0_pay5 (k0_pay1 x wq) (cls2 k) (cls2 v)) wo (cls3 k) (cls3 v) wo

/-- The first partial sum a device sends: its contribution to the rows that come first around the ring. -/
def part0 (x : FVec F S1x256x1024 .bf16) : FVec F S1x256x1024 .bf16 :=
  k0_pay14 (k0_pay9 (k0_pay8 x wq (cls0 k)) (cls0 v) wo)
    (k0_pay11 (k0_pay10 (k0_pay7 x wq) (cls1 k) (cls1 v) wo))
    (k0_pay12 (k0_pay7 x wq) (cls2 k) (cls2 v) wo)
    (k0_pay13 (k0_pay7 x wq) (cls3 k)) (cls3 v) wo

/-- Its contribution to the rows that come second. -/
def mid (x : FVec F S1x256x1024 .bf16) : FVec F S256x1024 .f32 :=
  k0_pay23 (k0_pay17 (k0_pay16 x wq (cls0 k)) (cls0 v) wo)
    (k0_pay20 (k0_pay18 (k0_pay15 x wq) (cls1 k)) (k0_pay19 (cls1 v)) wo)
    (k0_pay21 (k0_pay15 x wq) (cls2 k) (cls2 v) wo)
    (k0_pay22 (k0_pay15 x wq)) (cls3 k) (cls3 v) wo

/-- Its contribution to the rows that come third. -/
def far (x : FVec F S1x256x1024 .bf16) : FVec F S256x1024 .f32 :=
  k0_pay33 (k0_pay27 (k0_pay25 x) (k0_pay26 wq))
    (k0_pay28 (k0_pay25 x) (k0_pay26 wq) (cls0 k) (cls0 v) wo)
    (k0_pay31 (k0_pay29 (k0_pay25 x) (k0_pay26 wq) (cls1 k)) (k0_pay30 (k0_pay25 x) (k0_pay26 wq) (cls1 k)) (cls1 v) wo)
    (k0_pay32 (k0_pay27 (k0_pay25 x) (k0_pay26 wq)) (cls2 k) (cls2 v)) wo (cls3 k) (cls3 v) wo

end Pieces

/-! ## What the slots hold -/

variable (I : Ins F)

/-- Slot 0, 1, 2 of device `c`'s gathered rows: its left neighbours' rows, nearest first. -/
def gat0 (c : Dev nD) : FVec F S1x256x1024 .bf16 := up (I.x (prv c))
def gat1 (c : Dev nD) : FVec F S1x256x1024 .bf16 := up (I.x (prv (prv c)))
def gat2 (c : Dev nD) : FVec F S1x256x1024 .bf16 := up (I.x (prv (prv (prv c))))

/-- What device `c` sends in the first, second and third step of the reduction. -/
def snd0 (c : Dev nD) : FVec F S1x256x1024 .bf16 := part0 (I.wq c) (I.k c) (I.v c) (I.wo c) (gat0 I c)
def snd1 (c : Dev nD) : FVec F S1x256x1024 .bf16 := k0_pay24 (mid (I.wq c) (I.k c) (I.v c) (I.wo c) (gat1 I c)) (snd0 I (prv c))
def snd2 (c : Dev nD) : FVec F S1x256x1024 .bf16 := k0_pay34 (far (I.wq c) (I.k c) (I.v c) (I.wo c) (gat2 I c)) (snd1 I (prv c))

/-- What device `c`'s kernel stores as its result. -/
def res (c : Dev nD) : FVec F S256x1024 .f32 := k0_pay35 (own (I.wq c) (I.k c) (I.v c) (I.wo c) (I.x c)) (snd2 I (prv c))

end Cert.KernelIdeal.Ring

end
-- ==== Proof.KernelIdeal.Cells.lean ====
/-
# The protocol: cells, payloads, dues, levels

Each device has a barrier cell, signalled by both neighbours, and twelve transfer cells: for each of the three steps of the
gathering and the three steps of the reduction, the sender's and the receiver's end. Every cell has one round.

* The barrier unit of the right neighbour brings that neighbour's three gathering slots and three receiving slots, which the
  device's transfers write, and that the neighbour's receiving cells are open. The left neighbour's unit brings nothing.
* A receiving cell's round brings the slot back, holding the named block.
* A sending cell's round brings back the half of the source that was lent (the gathering, whose sources are also read by the
  body meanwhile), or the whole source slot (the reduction).
-/
module

public import proofs.«01_k».proof.Proof.KernelIdeal.Values
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.MemrefSat
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (I : Ins F)

/-! ## Memrefs and slots -/

abbrev xM : Memref sig .tc .vmem S256x1024 .bf16 := Memref.whole cc0_stg0_0
abbrev gM : Memref sig .tc .vmem S3x256x1024 .bf16 := Memref.whole cc0_scratch0
abbrev sM : Memref sig .tc .vmem S3x256x1024 .bf16 := Memref.whole cc0_scratch1
abbrev rM : Memref sig .tc .vmem S3x256x1024 .bf16 := Memref.whole cc0_scratch2

/-- The offset of a slot. -/
abbrev Off : Type := {off : Fin 3 → ℕ // ∀ a, off a + S1x256x1024.size a ≤ S3x256x1024.size a}
abbrev o0 : Off := ⟨![0, 0, 0], inb_S3x256x1024_S1x256x1024_0_0_0⟩
abbrev o1 : Off := ⟨![1, 0, 0], inb_S3x256x1024_S1x256x1024_1_0_0⟩
abbrev o2 : Off := ⟨![2, 0, 0], inb_S3x256x1024_S1x256x1024_2_0_0⟩

/-- The rectangle of a slot. -/
abbrev rc (o : Off) : Rect S3x256x1024 := Rect.unit (s := S3x256x1024) o.1 S1x256x1024.size o.2
/-- A slot with its unit axis, and as the transfers name it. -/
abbrev sl (m : Memref sig .tc .vmem S3x256x1024 .bf16) (o : Off) : Memref sig .tc .vmem S1x256x1024 .bf16 :=
  m.slice (rc o) (fun _ => rfl)
abbrev sq (m : Memref sig .tc .vmem S3x256x1024 .bf16) (o : Off) : Memref sig .tc .vmem S256x1024 .bf16 :=
  (sl m o).squeeze S256x1024 squeezes_S1x256x1024_S256x1024

/-- A slot's elements at buffer contents `f`. -/
abbrev slPts (m : Memref sig .tc .vmem S3x256x1024 .bf16) (o : Off) (q : PosShare TreeShare) (c : Dev nD)
    (f : Buf (Elt F) ((sq m o).view.loc (c : Thread nD τ))) : sProp 𝕄 :=
  (sq m o).view.loc (c : Thread nD τ) ↦[(sq m o).view.set]{q} f

/-- A slot at the block `X`. -/
def slot (m : Memref sig .tc .vmem S3x256x1024 .bf16) (o : Off) (q : PosShare TreeShare) (c : Dev nD)
    (X : FVec F S1x256x1024 .bf16) : sProp 𝕄 :=
  iprop(∃ f : Buf (Elt F) ((sq m o).view.loc (c : Thread nD τ)), ⌜(sl m o).view.read (Elt F) f = X⌝ ∗ slPts m o q c f)
/-- A slot at contents not chosen. -/
def slotAny (m : Memref sig .tc .vmem S3x256x1024 .bf16) (o : Off) (c : Dev nD) : sProp 𝕄 :=
  iprop(∃ f : Buf (Elt F) ((sq m o).view.loc (c : Thread nD τ)), slPts m o fullShare c f)

omit [FloatOps F] in
theorem slot_any (m : Memref sig .tc .vmem S3x256x1024 .bf16) (o : Off) (c : Dev nD) (X : FVec F S1x256x1024 .bf16) :
    (slot m o fullShare c X : sProp 𝕄) ⊢ slotAny m o c := by
  unfold slot slotAny; iintro ⟨%f, -, H⟩; iexists f; iexact H

/-- The activations' staging buffer, at a share. -/
abbrev xPts (q : PosShare TreeShare) (c : Dev nD) : sProp 𝕄 := owns (c : Thread nD τ) xM q (I.x c)

instance slot_storable (m : Memref sig .tc .vmem S3x256x1024 .bf16) (o : Off) (q : PosShare TreeShare) (c : Dev nD) (X : FVec F S1x256x1024 .bf16) :
    BI.Storable (upEmb : UEmb _ 𝕄) (slot m o q c X) := by unfold slot; infer_instance
instance slotAny_storable (m : Memref sig .tc .vmem S3x256x1024 .bf16) (o : Off) (c : Dev nD) :
    BI.Storable (upEmb : UEmb _ 𝕄) (slotAny (F := F) m o c) := by unfold slotAny; infer_instance

/-! ## Semaphores and cells -/

/-- The transfer semaphores: gathering, sent (6, 7, 8) and received (9, 10, 11); reduction, sent (12, 13, 14) and
    received (15, 16, 17). -/
abbrev ds (k : Fin 12) : DmaSem sig := ⟨6 + k.val, by have := k.isLt; exact (by omega : 6 + k.val < 18)⟩

abbrev barS : Sem sig := sig.barrier 0 rfl
abbrev barCell (c : Dev nD) : GSem nD τ sig := ((c : Thread nD τ), .reg barS)
abbrev cell (c : Dev nD) (k : Fin 12) : GSem nD τ sig := ((c : Thread nD τ), .dma (ds k))

/-- The region's own (scoped) semaphores. -/
abbrev osem : Fin 12 → SemLoc sig := fun k => .dma (ds k)

/-- What one block's transfer credits. -/
abbrev N : ℕ := (sq gM o0).view.dmaCredit
theorem N_pos : 0 < N := View.dmaCredit_pos _ (by decide)

/-! ## The payloads -/

/-- The slots device `c` hands out, and that round 0 of its receiving cells is reached. -/
def lend (c : Dev nD) : sProp 𝕄 :=
  iprop(slotAny gM o0 c ∗ slotAny gM o1 c ∗ slotAny gM o2 c ∗ slotAny rM o0 c ∗ slotAny rM o1 c ∗ slotAny rM o2 c
    ∗ reached ER (cell c 3) 0 ∗ reached ER (cell c 4) 0 ∗ reached ER (cell c 5) 0
    ∗ reached ER (cell c 9) 0 ∗ reached ER (cell c 10) 0 ∗ reached ER (cell c 11) 0)

/-- The payloads of device `c`'s transfer cells, by the semaphore's number. -/
def pay (c : Dev nD) : ℕ → sProp 𝕄
  | 6 => xPts I fullShare.left c
  | 7 => slot gM o0 fullShare.left c (gat0 I c)
  | 8 => slot gM o1 fullShare.left c (gat1 I c)
  | 9 => slot gM o0 fullShare c (gat0 I c)
  | 10 => slot gM o1 fullShare c (gat1 I c)
  | 11 => slot gM o2 fullShare c (gat2 I c)
  | 12 => slotAny sM o0 c
  | 13 => slotAny sM o1 c
  | 14 => slotAny sM o2 c
  | 15 => slot rM o0 fullShare c (snd0 I (prv c))
  | 16 => slot rM o1 fullShare c (snd1 I (prv c))
  | 17 => slot rM o2 fullShare c (snd2 I (prv c))
  | _ => iprop(emp)

instance pay_storable (c : Dev nD) (n : ℕ) : BI.Storable (upEmb : UEmb _ 𝕄) (pay I c n) := by
  unfold pay; split <;> infer_instance

instance lend_storable (c : Dev nD) : BI.Storable (upEmb : UEmb _ 𝕄) (lend (F := F) c) := by unfold lend; infer_instance

/-- What a cell's duty brings. -/
def cellPay (c : Dev nD) (d : Bool) : SemLoc sig → sProp 𝕄
  | .reg _ => if d then lend (nxt c) else iprop(emp)
  | .dma s => pay I c s.val

instance cellPay_storable (c : Dev nD) (d : Bool) (s : SemLoc sig) : BI.Storable (upEmb : UEmb _ 𝕄) (cellPay I c d s) := by
  unfold cellPay; split
  · split <;> infer_instance
  · infer_instance

/-- The duties of a cell's one round. -/
def cellDuties : SemLoc sig → Finset Bool
  | .reg _ => Finset.univ
  | .dma _ => {false}
def cellAmount : SemLoc sig → ℕ
  | .reg _ => 1
  | .dma _ => N

/-- Round 0: both duties of a barrier cell, the one duty of a transfer cell. -/
def Rd : Rounds.Schedule (GSem nD τ sig) Bool 𝕄 where
  duties g r := if r = 0 then cellDuties g.2 else ∅
  unitless _ := False
  amount g _ _ := cellAmount g.2
  payload g _ d := cellPay I g.1.1 d g.2
  amount_pos g _ _ _ := by
    show 0 < cellAmount g.2
    unfold cellAmount; split
    · exact Nat.one_pos
    · exact N_pos

instance Rd_payload_storable (g : GSem nD τ sig) (r : ℕ) (d : Bool) : BI.Storable (upEmb : UEmb _ 𝕄) ((Rd I).payload g r d) :=
  cellPay_storable I g.1.1 d g.2

section Sched

variable (c : Dev nD) (k : Fin 12)

theorem duties_bar : (Rd I).duties (barCell c) 0 = Finset.univ := rfl
theorem duties_cell : (Rd I).duties (cell c k) 0 = {false} := rfl
theorem duties_later (g : GSem nD τ sig) : ∀ r, 0 + 1 ≤ r → (Rd I).duties g r = ∅ :=
  fun r hr => if_neg (by omega)
theorem amount_bar (d : Bool) : (Rd I).amount (barCell c) 0 d = 1 := rfl
theorem amount_cell (d : Bool) : (Rd I).amount (cell c k) 0 d = N := rfl
theorem expect_bar : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_cell : (Rd I).expect (cell c k) 0 = N := by
  unfold Schedule.expect Schedule.amountOf; rw [duties_cell, Finset.sum_singleton, amount_cell]
theorem payload_bar_true : (Rd I).payload (barCell c) 0 true = lend (nxt c) := rfl
theorem payload_bar_false : (Rd I).payload (barCell c) 0 false = (iprop(emp) : sProp 𝕄) := rfl
theorem payload_cell (d : Bool) : (Rd I).payload (cell c k) 0 d = pay I c (6 + k.val) := rfl
theorem rest_bar : bigSep ((Rd I).duties (barCell c) 0 \ ∅) (fun d => (Rd I).payload (barCell c) 0 d)
    = (iprop(emp ∗ lend (nxt c)) : sProp 𝕄) := by
  rw [Finset.sdiff_empty, duties_bar, bigSep_univ_eq_bigSepL [false, true] (by decide) (by decide), bigSepL_cons_cons, bigSepL_singleton,
    payload_bar_false, payload_bar_true]
  rfl
theorem rest_cell : bigSep ((Rd I).duties (cell c k) 0 \ ∅) (fun d => (Rd I).payload (cell c k) 0 d) = pay I c (6 + k.val) := by
  rw [Finset.sdiff_empty, duties_cell, bigSep_singleton, payload_cell]

end Sched

/-! ## Dues and levels -/

/-- What device `c` still owes after its first `8 - j` payments: the credits of its transfers to the right, last first. -/
def due1 (c : Dev nD) : CellTallies nD τ sig Unit := 0 + tallyAt (cell (nxt c) 11) () N
def due2 (c : Dev nD) : CellTallies nD τ sig Unit := due1 c + tallyAt (cell (nxt c) 10) () N
def due3 (c : Dev nD) : CellTallies nD τ sig Unit := due2 c + tallyAt (cell (nxt c) 5) () N
def due4 (c : Dev nD) : CellTallies nD τ sig Unit := due3 c + tallyAt (cell (nxt c) 9) () N
def due5 (c : Dev nD) : CellTallies nD τ sig Unit := due4 c + tallyAt (cell (nxt c) 4) () N
def due6 (c : Dev nD) : CellTallies nD τ sig Unit := due5 c + tallyAt (cell (nxt c) 3) () N
def due7 (c : Dev nD) : CellTallies nD τ sig Unit := due6 c + tallyAt (barCell (nxt c)) () 1
/-- What device `c` owes at launch: two barrier units and six transfers. -/
def O₀ (c : Dev nD) : CellTallies nD τ sig Unit := due7 c + tallyAt (barCell (prv c)) () 1

def L (g : GSem nD τ sig) : Finset Unit := if g.1.2 = .tc then {()} else ∅

/-- Levels: the waits' order. The staging cells and the sending cells lowest, then the barrier, then the receiving cells
    in the order in which the body waits for them. -/
def lvOf : SemLoc sig → ℕ
  | .reg _ => 1
  | .dma s => match s.val with
    | 9 => 2 | 10 => 3 | 15 => 4 | 11 => 5 | 16 => 6 | 17 => 7 | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-- Every cell a tally counts has level above `n`, and is a TensorCore's. -/
def Above (n : ℕ) (O : CellTallies nD τ sig Unit) : Prop := ∀ g u, 0 < O g u → g.1.2 = .tc ∧ n < lv g u

theorem above_zero (n : ℕ) : Above n 0 := fun _ _ h => absurd h (Nat.lt_irrefl 0)
theorem above_add {n : ℕ} {O : CellTallies nD τ sig Unit} (h : Above n O) (c : Dev nD) (s : SemLoc sig) (a : ℕ) (hs : n < lvOf s) :
    Above n (O + tallyAt ((c : Thread nD τ), s) () a) := fun g u hg => by
  rw [Pi.add_apply, Finsupp.add_apply] at hg
  rcases Nat.add_pos_iff_pos_or_pos.mp hg with hg | hg
  · exact h g u hg
  · rw [tallyAt_apply] at hg
    split at hg
    · next e => obtain ⟨rfl, -⟩ := e; exact ⟨rfl, hs⟩
    · exact absurd hg (Nat.lt_irrefl 0)

/-- A wait at a cell below everything owed is allowed. -/
theorem mayWait {n : ℕ} {O : CellTallies nD τ sig Unit} (h : Above n O) (c : Dev nD) (s : SemLoc sig) (hs : lvOf s ≤ n) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp]; exact hs)
    (fun g u hg => (h g u hg).2)

theorem above_due1 (c : Dev nD) : Above 6 (due1 c) := above_add (above_zero 6) _ _ _ (by decide)
theorem above_due2 (c : Dev nD) : Above 5 (due2 c) :=
  above_add (above_add (above_zero 5) _ _ _ (by decide)) _ _ _ (by decide)
theorem above_due3 (c : Dev nD) : Above 4 (due3 c) :=
  above_add (above_add (above_add (above_zero 4) _ _ _ (by decide)) _ _ _ (by decide)) _ _ _ (by decide)
theorem above_due4 (c : Dev nD) : Above 3 (due4 c) :=
  above_add (above_add (above_add (above_add (above_zero 3) _ _ _ (by decide)) _ _ _ (by decide)) _ _ _ (by decide)) _ _ _ (by decide)
theorem above_due5 (c : Dev nD) : Above 2 (due5 c) :=
  above_add (above_add (above_add (above_add (above_add (above_zero 2) _ _ _ (by decide)) _ _ _ (by decide)) _ _ _ (by decide)) _ _ _
    (by decide)) _ _ _ (by decide)
theorem above_due6 (c : Dev nD) : Above 1 (due6 c) :=
  above_add (above_add (above_add (above_add (above_add (above_add (above_zero 1) _ _ _ (by decide)) _ _ _ (by decide)) _ _ _ (by decide))
    _ _ _ (by decide)) _ _ _ (by decide)) _ _ _ (by decide)
theorem above_O₀ (c : Dev nD) : Above 0 (O₀ c) :=
  above_add (above_add (above_add (above_add (above_add (above_add (above_add (above_add (above_zero 0) _ _ _ (by decide)) _ _ _ (by decide))
    _ _ _ (by decide)) _ _ _ (by decide)) _ _ _ (by decide)) _ _ _ (by decide)) _ _ _ (by decide)) _ _ _ (by decide)

end Cert.KernelIdeal.Ring

end
-- ==== Proof.KernelIdeal.Steps.lean ====
/-
# One step of the body each

A load from a staging buffer, a load from or a store to a slot, a signal, a wait, a transfer: what each takes and gives back,
stated once for every device and every slot, so that the body's proof is a chain of these.
-/
module

public import proofs.«01_k».proof.Proof.KernelIdeal.Cells
public import Idealize.ShloMosaic.Lib.ViewIndex
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

abbrev 𝒱₀ : Variants := Variants.none

/-- The rest of the body, from its post `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The end of a part. -/
theorem run_ret {α : Type} (c : Dev nD) (a : α) (Q : α → sProp 𝕄) : (Q a : sProp 𝕄) ⊢ run c (.ret a) Q := by
  unfold run
  rw [wp_ret]
  iintro H
  imodintro
  iexact H

/-! ## Slots -/

section Slot

variable (m : Memref sig .tc .vmem S3x256x1024 .bf16) (o : Off) (c : Dev nD)

omit [FloatOps F] in
theorem slot_intro (q : PosShare TreeShare) (f : Buf (Elt F) ((sq m o).view.loc (c : Thread nD τ))) {X : FVec F S1x256x1024 .bf16}
    (h : (sl m o).view.read (Elt F) f = X) : (slPts m o q c f : sProp 𝕄) ⊢ slot m o q c X := by
  unfold slot; iintro H; iexists f; isplitr; · ipureintro; exact h
  iexact H

omit [FloatOps F] in
/-- Contents not chosen are some contents. -/
theorem slotAny_elim : (slotAny m o c : sProp 𝕄) ⊢ iprop(∃ X, slot m o fullShare c X) := by
  unfold slotAny; iintro ⟨%f, H⟩; iexists (sl m o).view.read (Elt F) f; iapply (slot_intro m o c fullShare f rfl); iexact H

omit [FloatOps F] in
/-- A share of a slot is its two halves. -/
theorem slot_halves (q : PosShare TreeShare) (X : FVec F S1x256x1024 .bf16) :
    (slot m o q c X : sProp 𝕄) ⊢ iprop(slot m o q.left c X ∗ slot m o q.right c X) := by
  unfold slot
  iintro ⟨%f, %hf, H⟩
  ihave H2 := (pointsTo_share (PosShare.mem_left_op_right q)).1 $$ H
  icases H2 with ⟨Hl, Hr⟩
  isplitl [Hl]
  · iexists f; isplitr; · ipureintro; exact hf
    iexact Hl
  · iexists f; isplitr; · ipureintro; exact hf
    iexact Hr

omit [FloatOps F] in
/-- What a transfer of the block `w` leaves in a slot. -/
theorem slot_write (f : Buf (Elt F) ((sq m o).view.loc (c : Thread nD τ))) (w : FVec F S256x1024 .bf16) {X : FVec F S1x256x1024 .bf16} (hX : up w = X) :
    (slPts m o fullShare c ((sq m o).view.write (Elt F) f w Finset.univ) : sProp 𝕄) ⊢ slot m o fullShare c X := by
  refine slot_intro m o c fullShare _ (hX ▸ ?_)
  funext i
  obtain ⟨j, rfl⟩ := (Shape.reshapeEquiv (s := S1x256x1024) (s' := S256x1024) squeezes_S1x256x1024_S256x1024.numel_eq).surjective i
  refine (View.read_write_reshape (sl m o).view squeezes_S1x256x1024_S256x1024.numel_eq f w j).trans ?_
  exact (congrArg w ((Shape.reshapeEquiv (s := S1x256x1024) (s' := S256x1024) squeezes_S1x256x1024_S256x1024.numel_eq).symm_apply_apply j)).symm

omit [FloatOps F] in
/-- The block the transfers see of a slot that holds `X`. -/
theorem sq_read (f : Buf (Elt F) ((sq m o).view.loc (c : Thread nD τ))) :
    up ((sq m o).view.read (Elt F) f) = (sl m o).view.read (Elt F) f := by
  funext i
  obtain ⟨j, rfl⟩ := (Shape.reshapeEquiv (s := S1x256x1024) (s' := S256x1024) squeezes_S1x256x1024_S256x1024.numel_eq).surjective i
  exact congrArg ((sq m o).view.read (Elt F) f) ((Shape.reshapeEquiv (s := S1x256x1024) (s' := S256x1024) squeezes_S1x256x1024_S256x1024.numel_eq).symm_apply_apply j)

end Slot

/-! ## Loads and stores -/

section Mem

variable (c : Dev nD)

/-- A load from a memref owned at known contents. -/
theorem load_owns {α : Type} {Q : α → sProp 𝕄} {s : Shape} {e : EltTy} (m : Memref sig .tc .vmem s e) (r : Rect s) {hl : m.view.LoadsAt r.toLoadRect}
    {q : PosShare TreeShare} {X : s.Idx → Elt F e} {Y : r.shape.Idx → Elt F e} (hY : View.ld X r = Y)
    {k : (r.shape.Idx → Elt F e) → Prog (TpuEff nD τ sig (Elt F) Λ₀ .tc) α} :
    (owns (c : Thread nD τ) m q X : sProp 𝕄)
      ⊢ iprop((owns (c : Thread nD τ) m q X -∗ run c (k Y) Q) -∗ run c (.op (.load m r.toLoadRect hl) k) Q) := by
  subst hY
  unfold owns
  iintro ⟨%f, %hf, H⟩ Hk
  subst hf
  iapply (wp_load_rect 𝒱₀ (c : Thread nD τ) none Set.univ (S := m.view.set) (q := q) (f := f) (m.view.set_slice_subset r)) $$ [H]
  · iexact H
  iintro H
  iapply Hk
  iexists f
  isplitr; · ipureintro; rfl
  iexact H

/-- A load of all of a memref. -/
theorem load_full {α : Type} {Q : α → sProp 𝕄} {s : Shape} {e : EltTy} (m : Memref sig .tc .vmem s e) {off : Fin s.rank → ℕ} (h0 : off = fun _ => 0)
    {inb : ∀ a, off a + s.size a ≤ s.size a} {hl : m.view.LoadsAt (Rect.unit off s.size inb).toLoadRect}
    {q : PosShare TreeShare} {X : s.Idx → Elt F e}
    {k : (s.Idx → Elt F e) → Prog (TpuEff nD τ sig (Elt F) Λ₀ .tc) α} :
    (owns (c : Thread nD τ) m q X : sProp 𝕄)
      ⊢ iprop((owns (c : Thread nD τ) m q X -∗ run c (k X) Q)
        -∗ run c (.op (.load m (Rect.unit off s.size inb).toLoadRect hl) k) Q) :=
  load_owns c m (Rect.unit off s.size inb) (View.ld_unit_zero h0 inb X)

/-- A store to all of a memref. -/
theorem store_full {α : Type} {Q : α → sProp 𝕄} {s : Shape} {e : EltTy} (m : Memref sig .tc .vmem s e) {off : Fin s.rank → ℕ} (h0 : off = fun _ => 0)
    {inb : ∀ a, off a + s.size a ≤ s.size a} {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    {X : s.Idx → Elt F e} {k : PUnit → Prog (TpuEff nD τ sig (Elt F) Λ₀ .tc) α} :
    (owns (c : Thread nD τ) m fullShare X : sProp 𝕄)
      ⊢ iprop((owns (c : Thread nD τ) m fullShare w -∗ run c (k ⟨⟩) Q)
        -∗ run c (.op (.store m (Rect.unit off s.size inb) w Finset.univ hx hm) k) Q) := by
  subst h0
  unfold owns
  iintro ⟨%f, -, H⟩ Hk
  iapply (wp_store 𝒱₀ (c : Thread nD τ) none Set.univ (S := m.view.set) (f := f) (m.view.set_slice_subset _)) $$ [H]
  · iexact H
  iintro H
  iapply Hk
  iexists _
  isplitr
  rotate_left
  · iexact H
  · ipureintro
    funext i
    refine Eq.trans ?_ (View.read_slice_write_emb (v := m.view) (Rect.whole s) f w (Finset.mem_univ i))
    rw [Rect.emb_whole_apply]
    rfl

/-- A load of a slot. -/
theorem load_slot {α : Type} {Q : α → sProp 𝕄} (m : Memref sig .tc .vmem S3x256x1024 .bf16) (o : Off) {hl : m.view.LoadsAt (rc o).toLoadRect}
    {q : PosShare TreeShare} {X : FVec F S1x256x1024 .bf16}
    {k : (S1x256x1024.Idx → Elt F .bf16) → Prog (TpuEff nD τ sig (Elt F) Λ₀ .tc) α} :
    (slot m o q c X : sProp 𝕄)
      ⊢ iprop((slot m o q c X -∗ run c (k X) Q) -∗ run c (.op (.load m (rc o).toLoadRect hl) k) Q) := by
  unfold slot
  iintro ⟨%f, %hf, H⟩ Hk
  subst hf
  iapply (wp_load_rect 𝒱₀ (c : Thread nD τ) none Set.univ (S := (sq m o).view.set) (q := q) (f := f)
    (View.set_reshape _ _).symm.subset) $$ [H]
  · iexact H
  iintro H
  iapply Hk
  iexists f
  isplitr; · ipureintro; rfl
  iexact H

/-- A store to a slot. -/
theorem store_slot {α : Type} {Q : α → sProp 𝕄} (m : Memref sig .tc .vmem S3x256x1024 .bf16) (o : Off) {w : S1x256x1024.Idx → Elt F .bf16}
    {hx : (m.access (rc o)).Stores Finset.univ} {hm : (Finset.univ : Finset (rc o).shape.Idx) = Finset.univ ∨ ∀ a, (rc o).stride a = 1}
    {X : FVec F S1x256x1024 .bf16} {k : PUnit → Prog (TpuEff nD τ sig (Elt F) Λ₀ .tc) α} :
    (slot m o fullShare c X : sProp 𝕄)
      ⊢ iprop((slot m o fullShare c w -∗ run c (k ⟨⟩) Q)
        -∗ run c (.op (.store m (rc o) w Finset.univ hx hm) k) Q) := by
  unfold slot
  iintro ⟨%f, -, H⟩ Hk
  iapply (wp_store 𝒱₀ (c : Thread nD τ) none Set.univ (S := (sq m o).view.set) (f := f)
    (View.set_reshape _ _).symm.subset) $$ [H]
  · iexact H
  iintro H
  iapply Hk
  iexists _
  isplitr
  rotate_left
  · iexact H
  · ipureintro
    exact View.read_write_univ (v := (sl m o).view) (Val := Elt F) _ w

end Mem

/-! ## The cells' records -/

abbrev barEmb : Dev nD ↪ GSem nD τ sig := ⟨fun c => barCell c, fun _ _ h => congrArg (fun g : GSem nD τ sig => g.1.1) h⟩
theorem osem_inj : Function.Injective osem := by
  intro a b h
  revert a b
  decide
abbrev scEmb : Dev nD × Fin 12 ↪ GSem nD τ sig :=
  ⟨fun p => cell p.1 p.2, fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

/-- Every cell's invariant, and that every barrier cell's round is open. -/
def records (κ : GSem nD τ sig → ℕ) : sProp 𝕄 :=
  iprop((bigSep (barCells ∪ scCells) fun g => cellInv ER (Rd I) (κ g) g) ∗ bigSep barCells fun g => reached ER g 0)
instance records_persistent (κ : GSem nD τ sig → ℕ) : BI.Persistent (records I κ) := by unfold records; infer_instance

/-- With the levels and device `c`'s own transfer cells open. -/
def env (κ : GSem nD τ sig → ℕ) (c : Dev nD) : sProp 𝕄 :=
  iprop(records I κ ∗ levAts L lv ∗ bigSep Finset.univ fun k : Fin 12 => reached ER (cell c k) 0)
instance env_persistent (κ : GSem nD τ sig → ℕ) (c : Dev nD) : BI.Persistent (env I κ c) := by unfold env; infer_instance

section Env
variable (κ : GSem nD τ sig → ℕ) (c : Dev nD)

theorem env_inv {g : GSem nD τ sig} (hg : g ∈ (barCells ∪ scCells : Finset (GSem nD τ sig))) : env I κ c ⊢ cellInv ER (Rd I) (κ g) g := by
  have h : (bigSep (barCells ∪ scCells) fun g => (cellInv ER (Rd I) (κ g) g : sProp 𝕄)) ⊢ cellInv ER (Rd I) (κ g) g := bigSep_elim hg
  unfold env records
  iintro ⟨⟨#H, -⟩, -⟩
  iapply h
  iexact H
theorem env_bar (d : Dev nD) : env I κ c ⊢ cellInv ER (Rd I) (κ (barCell d)) (barCell d) :=
  env_inv I κ c (Finset.mem_union_left _ (Finset.mem_map_of_mem barEmb (Finset.mem_univ d)))
theorem env_cell (d : Dev nD) (k : Fin 12) : env I κ c ⊢ cellInv ER (Rd I) (κ (cell d k)) (cell d k) :=
  env_inv I κ c (Finset.mem_union_right _ (Finset.mem_map_of_mem scEmb (Finset.mem_univ (d, k))))
theorem env_barReached (d : Dev nD) : env I κ c ⊢ reached ER (barCell d) 0 := by
  have h : (bigSep barCells fun g => (reached ER g 0 : sProp 𝕄)) ⊢ reached ER (barCell d) 0 :=
    bigSep_elim (Finset.mem_map_of_mem barEmb (Finset.mem_univ d))
  unfold env records
  iintro ⟨⟨-, #H⟩, -⟩
  iapply h
  iexact H
theorem env_lev : env I κ c ⊢ levAts L lv := by
  unfold env
  iintro ⟨-, #H, -⟩
  iexact H
theorem env_reached (k : Fin 12) : env I κ c ⊢ reached ER (cell c k) 0 := by
  have h : (bigSep Finset.univ fun k : Fin 12 => (reached ER (cell c k) 0 : sProp 𝕄)) ⊢ reached ER (cell c k) 0 :=
    bigSep_elim (Finset.mem_univ k)
  unfold env
  iintro ⟨-, -, #H⟩
  iapply h
  iexact H

end Env

/-- What a device owes, whatever waits it has made. -/
def owesE (c : Dev nD) (O : CellTallies nD τ sig Unit) : sProp 𝕄 := iprop(∃ W, owes (c : Thread nD τ) O W)

/-! ## Signals, waits and transfers -/

section Talk

variable (κ : GSem nD τ sig → ℕ) (c : Dev nD)

/-- A signal to a neighbour's barrier cell. -/
theorem signal_step {α : Type} {Q : α → sProp 𝕄} {d d' : Dev nD} (hd : d = d') {j : ℤ} (hj : j = 1) (b : Bool) {O O' : CellTallies nD τ sig Unit}
    (hO : O = O' + tallyAt (barCell d') () 1) {R : sProp 𝕄} (hR : R ⊢ (Rd I).payload (barCell d') 0 b)
    {k : PUnit → Prog (TpuEff nD τ sig (Elt F) Λ₀ .tc) α} :
    iprop(env I κ c ∗ owesE c O ∗ dutyTok ER (barCell d') 0 b ∗ R)
      ⊢ iprop((owesE c O' -∗ run c (k ⟨⟩) Q) -∗ run c (.op (.semSignal (d : Thread nD τ) barS j) k) Q) := by
  subst hd hj
  unfold owesE
  iintro ⟨#He, ⟨%W, HO⟩, Ht, HR⟩ Hk
  iapply (Rounds.wp_signal 𝒱₀ ER (Rd I) (c : Thread nD τ) none (dst := (d : Thread nD τ)) (sem := barS) (r := 0) (d := b) (κ := κ (barCell d))
      (by rw [duties_bar]; exact Finset.mem_univ b) (amount_bar I d b) () O' hO) $$ [HO Ht HR]
  · isplitr; · iapply (env_bar I κ c d); iexact He
    isplitl [HO]; · iexact HO
    isplitl [Ht]; · iexact Ht
    isplitl [HR]; · iapply hR; iexact HR
    iapply (env_barReached I κ c d); iexact He
  iintro HO
  iapply Hk
  iexists W; iexact HO

/-- The wait at the barrier. -/
theorem barrier_step {α : Type} {Q : α → sProp 𝕄} {j : BitVec 32} (hj : j.toInt = 2) {O : CellTallies nD τ sig Unit} (hO : Above 1 O)
    {k : PUnit → Prog (TpuEff nD τ sig (Elt F) Λ₀ .tc) α} :
    iprop(env I κ c ∗ cred (tallyAt (barCell c) () 2) ∗ owesE c O ∗ atPos ER (barCell c) 0 ∅ 0)
      ⊢ iprop(((owesE c O ∗ atPos ER (barCell c) 1 ∅ 0 ∗ lend (nxt c)) -∗ run c (k ⟨⟩) Q)
        -∗ run c (.op (.semWait barS j.toInt) k) Q) := by
  rw [hj]
  unfold owesE
  iintro ⟨#He, Hc, ⟨%W, HO⟩, Hat⟩ Hk
  iapply (Rounds.wp_wait_rest_token 𝒱₀ ER (Rd I) (c : Thread nD τ) none (κ := κ (barCell c))
      (wpE_semWait_eq 𝒱₀ (c : Thread nD τ) none Set.univ) (Set.mem_univ _) () (O := O) (W := W) (R := 0) (m := 0) (T := ∅)
      ((Nat.zero_add _).trans (expect_bar I c).symm)) $$ [Hc HO Hat]
  · isplitr; · iapply (env_bar I κ c c); iexact He
    isplitl [Hc]; · iexact Hc
    isplitl [HO]; · iexact HO
    isplitr; · iapply (mayWait hO c _ (by decide)); iapply (env_lev I κ c); iexact He
    iexact Hat
  iintro ⟨HO, Hat, -, Hpay⟩
  ihave Hp := (Entails.of_eq (rest_bar I c)) $$ Hpay
  icases Hp with ⟨-, Hp⟩
  iapply Hk
  isplitl [HO]; · iexists _; iexact HO
  isplitl [Hat]; · iexact Hat
  iexact Hp

/-- A wait for a transfer. -/
theorem wait_step {α : Type} {Q : α → sProp 𝕄} (j : Fin 12) {s : DmaSem sig} (hs : s = ds j) {s₁ s₂ : Shape} {e₁ e₂ : EltTy} {src : Memref sig .tc .vmem s₁ e₁}
    {dst : Memref sig .tc .vmem s₂ e₂} {h₁ : src.view.WordExact} {h₂ : dst.view.WordExact} (hN : dst.view.dmaCredit = N)
    {n : ℕ} {O : CellTallies nD τ sig Unit} (hO : Above n O) (hn : lvOf (.dma (ds j)) ≤ n)
    {k : PUnit → Prog (TpuEff nD τ sig (Elt F) Λ₀ .tc) α} :
    iprop(env I κ c ∗ cred (tallyAt (cell c j) () N) ∗ owesE c O ∗ atPos ER (cell c j) 0 ∅ 0)
      ⊢ iprop(((owesE c O ∗ atPos ER (cell c j) 1 ∅ 0 ∗ pay I c (6 + j.val)) -∗ run c (k ⟨⟩) Q)
        -∗ run c (.op (.waitDma2 s src dst h₁ h₂) k) Q) := by
  subst hs
  unfold owesE
  iintro ⟨#He, Hc, ⟨%W, HO⟩, Hat⟩ Hk
  iapply (Rounds.wp_wait_rest_token 𝒱₀ ER (Rd I) (c : Thread nD τ) none (κ := κ (cell c j)) (k' := N)
      (by rw [← hN]; exact wpE_waitDma2_eq 𝒱₀ (c : Thread nD τ) none Set.univ) (Set.mem_univ _) () (O := O) (W := W) (R := 0) (m := 0) (T := ∅)
      ((Nat.zero_add _).trans (expect_cell I c j).symm)) $$ [Hc HO Hat]
  · isplitr; · iapply (env_cell I κ c c j); iexact He
    isplitl [Hc]; · iexact Hc
    isplitl [HO]; · iexact HO
    isplitr; · iapply (mayWait hO c _ hn); iapply (env_lev I κ c); iexact He
    iexact Hat
  iintro ⟨HO, Hat, -, Hpay⟩
  iapply Hk
  isplitl [HO]; · iexists _; iexact HO
  isplitl [Hat]; · iexact Hat
  iapply (Entails.of_eq (rest_cell I c j)) $$ Hpay

/-- A transfer of the block `X` to the right neighbour's slot. -/
theorem send_step {α : Type} {Q : α → sProp 𝕄} (j j' : Fin 12) {d : Dev nD} (hd : d = nxt c) {s s' : DmaSem sig} (hs : s = ds j) (hs' : s' = ds j')
    {src : Memref sig .tc .vmem S256x1024 .bf16} (m : Memref sig .tc .vmem S3x256x1024 .bf16) (o : Off) (hN : (sq m o).view.dmaCredit = N)
    {hsc : (sq m o).view.ref.isScScratch = false} {h₁ : src.view.WordExact} {h₂ : (sq m o).view.WordExact}
    {h₃ : DmaTarget.Typed (nD := nD) (τ := τ) (p := .tc) .vmem (.dma s') (.remote (Dev.tc d) (sq m o) (.dma s) hsc)}
    {O O' : CellTallies nD τ sig Unit} (hO : O = O' + tallyAt (cell (nxt c) j') () N) {q : PosShare TreeShare}
    (f : Buf (Elt F) (src.view.loc (c : Thread nD τ))) {R : sProp 𝕄}
    (hp : (src.view.loc (c : Thread nD τ) ↦[src.view.set]{q} f : sProp 𝕄) ⊢ pay I c (6 + j.val))
    (hp' : slot m o fullShare (nxt c) (up (src.view.read (Elt F) f)) ⊢ pay I (nxt c) (6 + j'.val))
    {k : PUnit → Prog (TpuEff nD τ sig (Elt F) Λ₀ .tc) α} :
    iprop(env I κ c ∗ reached ER (cell (nxt c) j') 0 ∗ (src.view.loc (c : Thread nD τ) ↦[src.view.set]{q} f) ∗ slotAny m o (nxt c)
        ∗ owesE c O ∗ dutyTok ER (cell c j) 0 false ∗ dutyTok ER (cell (nxt c) j') 0 false)
      ⊢ iprop(((cred (tallyAt (cell c j) () N) ∗ owesE c O') -∗ run c (k ⟨⟩) Q)
        -∗ run c (.op (.enqueueDma src (.remote (Dev.tc d) (sq m o) (.dma s) hsc) (.dma s') h₁ h₂ h₃) k) Q) := by
  subst hd hs hs'
  unfold owesE slotAny
  iintro ⟨#He, #Hr, Hsrc, ⟨%fd, Hdst⟩, ⟨%W, HO⟩, Ht, Ht'⟩ Hk
  iapply (Rounds.wp_send_pointsTo 𝒱₀ ER (Rd I) (c : Thread nD τ) none (c' := (nxt c : Thread nD τ)) (src := src) (dst := sq m o)
      (sS := .dma (ds j)) (sem := .dma (ds j')) (q := q) (fs := f) (κ₁ := κ (cell c j)) (κ₂ := κ (cell (nxt c) j'))
      (r₁ := 0) (r₂ := 0) (d₁ := false) (d₂ := false) (fd := fd)
      (by rw [duties_cell]; exact Finset.mem_singleton_self _) (by rw [duties_cell]; exact Finset.mem_singleton_self _)
      () () N hN (amount_cell I c j false) (amount_cell I (nxt c) j' false) O' hO (W := W)
      (by rw [payload_cell]; exact hp)
      (by rw [payload_cell]; exact (slot_write m o (nxt c) fd _ rfl).trans hp')) $$ [Hsrc Hdst HO Ht Ht']
  · isplitr; · iapply (env_cell I κ c c j); iexact He
    isplitr; · iapply (env_cell I κ c (nxt c) j'); iexact He
    isplitl [Hsrc]; · iexact Hsrc
    isplitl [Hdst]; · iexact Hdst
    isplitl [HO]; · iexact HO
    isplitl [Ht]; · iexact Ht
    isplitr; · iapply (env_reached I κ c j); iexact He
    isplitl [Ht']; · iexact Ht'
    iexact Hr
  iintro ⟨Hc, HO⟩
  iapply Hk
  isplitl [Hc]; · iexact Hc
  iexists W; iexact HO

/-- A transfer of a slot's block. -/
theorem send_slot {α : Type} {Q : α → sProp 𝕄} (j j' : Fin 12) {d : Dev nD} (hd : d = nxt c) {s s' : DmaSem sig} (hs : s = ds j) (hs' : s' = ds j')
    (m' : Memref sig .tc .vmem S3x256x1024 .bf16) (o' : Off) (m : Memref sig .tc .vmem S3x256x1024 .bf16) (o : Off) (hN : (sq m o).view.dmaCredit = N)
    {hsc : (sq m o).view.ref.isScScratch = false} {h₁ : (sq m' o').view.WordExact} {h₂ : (sq m o).view.WordExact}
    {h₃ : DmaTarget.Typed (nD := nD) (τ := τ) (p := .tc) .vmem (.dma s') (.remote (Dev.tc d) (sq m o) (.dma s) hsc)}
    {O O' : CellTallies nD τ sig Unit} (hO : O = O' + tallyAt (cell (nxt c) j') () N) {q : PosShare TreeShare}
    {X : FVec F S1x256x1024 .bf16}
    (hp : slot m' o' q c X ⊢ pay I c (6 + j.val)) (hp' : slot m o fullShare (nxt c) X ⊢ pay I (nxt c) (6 + j'.val))
    {k : PUnit → Prog (TpuEff nD τ sig (Elt F) Λ₀ .tc) α} :
    iprop(env I κ c ∗ reached ER (cell (nxt c) j') 0 ∗ slot m' o' q c X ∗ slotAny m o (nxt c)
        ∗ owesE c O ∗ dutyTok ER (cell c j) 0 false ∗ dutyTok ER (cell (nxt c) j') 0 false)
      ⊢ iprop(((cred (tallyAt (cell c j) () N) ∗ owesE c O') -∗ run c (k ⟨⟩) Q)
        -∗ run c (.op (.enqueueDma (sq m' o') (.remote (Dev.tc d) (sq m o) (.dma s) hsc) (.dma s') h₁ h₂ h₃) k) Q) := by
  unfold slot at *
  iintro ⟨#He, #Hr, ⟨%f, %hf, Hsrc⟩, Hdst, HO, Ht, Ht'⟩ Hk
  iapply (send_step I κ c j j' hd hs hs' m o hN hO f (R := iprop(emp))
    ((slot_intro m' o' c q f hf).trans (by unfold slot; exact hp))
    (by rw [sq_read m' o' c f, hf]; unfold slot; exact hp')) $$ [Hsrc Hdst HO Ht Ht']
  · isplitr; · iexact He
    isplitr; · iexact Hr
    isplitl [Hsrc]; · iexact Hsrc
    isplitl [Hdst]; · iexact Hdst
    isplitl [HO]; · iexact HO
    isplitl [Ht] <;> iassumption
  iexact Hk

/-- A transfer of a whole buffer's block. -/
theorem send_owns {α : Type} {Q : α → sProp 𝕄} (j j' : Fin 12) {d : Dev nD} (hd : d = nxt c) {s s' : DmaSem sig} (hs : s = ds j) (hs' : s' = ds j')
    (src : Memref sig .tc .vmem S256x1024 .bf16) (m : Memref sig .tc .vmem S3x256x1024 .bf16) (o : Off) (hN : (sq m o).view.dmaCredit = N)
    {hsc : (sq m o).view.ref.isScScratch = false} {h₁ : src.view.WordExact} {h₂ : (sq m o).view.WordExact}
    {h₃ : DmaTarget.Typed (nD := nD) (τ := τ) (p := .tc) .vmem (.dma s') (.remote (Dev.tc d) (sq m o) (.dma s) hsc)}
    {O O' : CellTallies nD τ sig Unit} (hO : O = O' + tallyAt (cell (nxt c) j') () N) {q : PosShare TreeShare}
    {X : FVec F S256x1024 .bf16}
    (hp : owns (c : Thread nD τ) src q X ⊢ pay I c (6 + j.val)) (hp' : slot m o fullShare (nxt c) (up X) ⊢ pay I (nxt c) (6 + j'.val))
    {k : PUnit → Prog (TpuEff nD τ sig (Elt F) Λ₀ .tc) α} :
    iprop(env I κ c ∗ reached ER (cell (nxt c) j') 0 ∗ owns (c : Thread nD τ) src q X ∗ slotAny m o (nxt c)
        ∗ owesE c O ∗ dutyTok ER (cell c j) 0 false ∗ dutyTok ER (cell (nxt c) j') 0 false)
      ⊢ iprop(((cred (tallyAt (cell c j) () N) ∗ owesE c O') -∗ run c (k ⟨⟩) Q)
        -∗ run c (.op (.enqueueDma src (.remote (Dev.tc d) (sq m o) (.dma s) hsc) (.dma s') h₁ h₂ h₃) k) Q) := by
  unfold owns at *
  iintro ⟨#He, #Hr, ⟨%f, %hf, Hsrc⟩, Hdst, HO, Ht, Ht'⟩ Hk
  subst hf
  iapply (send_step I κ c j j' hd hs hs' m o hN hO f (R := iprop(emp))
    ((owns_intro (c : Thread nD τ) src q f).trans (by unfold owns; exact hp)) hp') $$ [Hsrc Hdst HO Ht Ht']
  · isplitr; · iexact He
    isplitr; · iexact Hr
    isplitl [Hsrc]; · iexact Hsrc
    isplitl [Hdst]; · iexact Hdst
    isplitl [HO]; · iexact HO
    isplitl [Ht] <;> iassumption
  iexact Hk

end Talk

end Cert.KernelIdeal.Ring

end
-- ==== Proof.KernelIdeal.Parts.lean ====
/-
# The parts of the body

What each part of the printed body takes and gives back, at a device named by `c`. A part that only loads and computes keeps the
staging buffers as they are; the others run one or two operations of the ring.
-/
module

public import proofs.«01_k».proof.Proof.KernelIdeal.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## The body's arguments -/

abbrev m1 : Memref sig .tc .vmem S1024x1024 .bf16 := Memref.whole cc0_stg1_0
abbrev m2 : Memref sig .tc .vmem S4x8x1024x128 .bf16 := Memref.whole cc0_stg2_0
abbrev m3 : Memref sig .tc .vmem S4x8x1024x128 .bf16 := Memref.whole cc0_stg3_0
abbrev m4 : Memref sig .tc .vmem S8x128x1024 .bf16 := Memref.whole cc0_stg4_0
abbrev m5 : Memref sig .tc .vmem S256x1024 .f32 := Memref.whole cc0_stg5_0

/-- A part of the body at the kernel's buffers and semaphores. -/
abbrev app {β : Type 1} (p : (arg0 : Memref sig .tc .vmem S256x1024 .bf16) → arg0.IsWhole → (arg1 : Memref sig .tc .vmem S1024x1024 .bf16) → arg1.IsWhole →
    (arg2 : Memref sig .tc .vmem S4x8x1024x128 .bf16) → arg2.IsWhole → (arg3 : Memref sig .tc .vmem S4x8x1024x128 .bf16) → arg3.IsWhole →
    (arg4 : Memref sig .tc .vmem S8x128x1024 .bf16) → arg4.IsWhole → (arg5 : Memref sig .tc .vmem S256x1024 .f32) → arg5.IsWhole →
    (arg6 : Memref sig .tc .vmem S3x256x1024 .bf16) → arg6.IsWhole → (arg7 : Memref sig .tc .vmem S3x256x1024 .bf16) → arg7.IsWhole →
    (arg8 : Memref sig .tc .vmem S3x256x1024 .bf16) → arg8.IsWhole →
    DmaSems sig S3 → DmaSems sig S3 → DmaSems sig S3 → DmaSems sig S3 → β) : β :=
  p xM (Memref.isWhole_whole _) m1 (Memref.isWhole_whole _) m2 (Memref.isWhole_whole _) m3 (Memref.isWhole_whole _) m4 (Memref.isWhole_whole _)
    m5 (Memref.isWhole_whole _) gM (Memref.isWhole_whole _) sM (Memref.isWhole_whole _) rM (Memref.isWhole_whole _)
    cc0_scratch3 cc0_scratch4 cc0_scratch5 cc0_scratch6

theorem hz2 : (![0, 0] : Fin 2 → ℕ) = fun _ => 0 := by decide
theorem hz3 : (![0, 0, 0] : Fin 3 → ℕ) = fun _ => 0 := by decide

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = nxt c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide

/-- The word of the right neighbour, which the body computes and does not use. -/
abbrev w7 (c : Dev nD) : BitVec 32 := Scalar.remsi (Scalar.addi (Scalar.remsi (Scalar.divsi (Dev.word c) 1#32) 4#32) 1#32) 4#32

/-- The staged weights, keys and values, which the body only loads. -/
def inp (c : Dev nD) : sProp 𝕄 :=
  iprop(owns (c : Thread nD τ) m1 fullShare (I.wq c) ∗ owns (c : Thread nD τ) m2 fullShare (I.k c)
    ∗ owns (c : Thread nD τ) m3 fullShare (I.v c) ∗ owns (c : Thread nD τ) m4 fullShare (I.wo c))

/-- The token of own transfer cell `k`'s duty, of the right neighbour's, and the position at own cell `k`. -/
abbrev tokO (c : Dev nD) (k : Fin 12) : sProp 𝕄 := dutyTok ER (cell c k) 0 false
abbrev tokN (c : Dev nD) (k : Fin 12) : sProp 𝕄 := dutyTok ER (cell (nxt c) k) 0 false
abbrev posn (c : Dev nD) (k : Fin 12) : sProp 𝕄 := atPos ER (cell c k) 0 ∅ 0
abbrev over (c : Dev nD) (k : Fin 12) : sProp 𝕄 := atPos ER (cell c k) 1 ∅ 0
abbrev crd (c : Dev nD) (k : Fin 12) : sProp 𝕄 := cred (tallyAt (cell c k) () N)
abbrev rch (c : Dev nD) (k : Fin 12) : sProp 𝕄 := reached ER (cell c k) 0

theorem credit_slot (m : Memref sig .tc .vmem S3x256x1024 .bf16) (o : Off) : (sq m o).view.dmaCredit = N := rfl
theorem credit_x : xM.view.dmaCredit = N := rfl

variable (κ : GSem nD τ sig → ℕ) (c : Dev nD)

theorem part1 (Kt : _ → sProp 𝕄) :
    iprop(env I κ c ∗ owesE c (O₀ c) ∗ (slotAny gM o0 c ∗ slotAny gM o1 c ∗ slotAny gM o2 c ∗ slotAny rM o0 c ∗ slotAny rM o1 c ∗ slotAny rM o2 c)
        ∗ dutyTok ER (barCell (prv c)) 0 true ∗ dutyTok ER (barCell (nxt c)) 0 false ∗ atPos ER (barCell c) 0 ∅ 0
        ∗ cred (tallyAt (barCell c) () 2) ∗ xPts I fullShare c ∗ tokO c 0 ∗ tokN c 3 ∗ inp I c
        ∗ ((owesE c (due5 c) ∗ (slotAny gM o1 (nxt c) ∗ slotAny gM o2 (nxt c) ∗ slotAny rM o0 (nxt c) ∗ slotAny rM o1 (nxt c) ∗ slotAny rM o2 (nxt c))
            ∗ (rch (nxt c) 4 ∗ rch (nxt c) 5 ∗ rch (nxt c) 9 ∗ rch (nxt c) 10 ∗ rch (nxt c) 11)
            ∗ atPos ER (barCell c) 1 ∅ 0 ∗ xPts I fullShare.right c ∗ crd c 0 ∗ inp I c)
          -∗ Kt ⟨c, w7 c, k0_pay1 (I.x c) (I.wq c)⟩))
      ⊢ run c (app (k0_part1 (F := F))) Kt := by
  rw [k0_part1_eq_skeleton]
  unfold app k0_part1_skel
  simp only [Prog.lift, Prog.bind_op, Prog.bind_ret, Prog.pure_eq_ret, semSignalWord, semWaitWord, wp_deviceId]
  unfold inp
  iintro ⟨#He, HO, ⟨Hg0, Hg1, Hg2, Hr0, Hr1, Hr2⟩, HtP, HtN, HaB, HcB, Hx, Ht0, Ht3, ⟨H1, H2, H3, H4⟩, Hk⟩
  iapply (signal_step I κ c (dev1_eq c) (by decide) true (O := O₀ c) (O' := due7 c) rfl (R := lend (nxt (prv c))) (Entails.refl _)) $$ [HO HtP Hg0 Hg1 Hg2 Hr0 Hr1 Hr2]
  · isplitr; · iexact He
    isplitl [HO]; · iexact HO
    isplitl [HtP]; · iexact HtP
    rw [nxt_prv]
    unfold lend
    isplitl [Hg0]; · iexact Hg0
    isplitl [Hg1]; · iexact Hg1
    isplitl [Hg2]; · iexact Hg2
    isplitl [Hr0]; · iexact Hr0
    isplitl [Hr1]; · iexact Hr1
    isplitl [Hr2]; · iexact Hr2
    isplitr; · iapply (env_reached I κ c 3); iexact He
    isplitr; · iapply (env_reached I κ c 4); iexact He
    isplitr; · iapply (env_reached I κ c 5); iexact He
    isplitr; · iapply (env_reached I κ c 9); iexact He
    isplitr; · iapply (env_reached I κ c 10); iexact He
    iapply (env_reached I κ c 11); iexact He
  iintro HO
  iapply (signal_step I κ c (dev2_eq c) (by decide) false (O := due7 c) (O' := due6 c) rfl (R := iprop(emp)) (Entails.refl _)) $$ [HO HtN]
  · isplitr; · iexact He
    isplitl [HO]; · iexact HO
    isplitl [HtN]; · iexact HtN
    iempintro
  iintro HO
  iapply (barrier_step I κ c (j := 2#32) (by decide) (O := due6 c) (above_due6 c)) $$ [HcB HO HaB]
  · isplitr; · iexact He
    isplitl [HcB]; · iexact HcB
    isplitl [HO]; · iexact HO
    iexact HaB
  iintro ⟨HO, HaB, Hp⟩
  unfold lend
  icases Hp with ⟨Hg0, Hg1, Hg2, Hr0, Hr1, Hr2, #R3, #R4, #R5, #R9, #R10, #R11⟩
  ihave Hx2 := (owns_halves (c : Thread nD τ) xM fullShare (I.x c)) $$ Hx
  icases Hx2 with ⟨Hxl, Hx⟩
  iapply (send_owns I κ c 0 3 (dev3_eq c) rfl rfl xM gM o0 (credit_slot gM o0) (O := due6 c) (O' := due5 c) rfl
      (Entails.refl _) (Entails.of_eq (by unfold pay gat0; rw [prv_nxt]; rfl))) $$ [Hxl Hg0 HO Ht0 Ht3]
  · isplitr; · iexact He
    isplitr; · iexact R3
    isplitl [Hxl]; · iexact Hxl
    isplitl [Hg0]; · iexact Hg0
    isplitl [HO]; · iexact HO
    isplitl [Ht0]; · iexact Ht0
    iexact Ht3
  iintro ⟨Hc0, HO⟩
  iapply (load_full c xM hz2) $$ Hx
  iintro Hx
  iapply (load_full c m1 hz2) $$ H1
  iintro H1
  iapply (run_ret c)
  iapply Hk
  isplitl [HO]; · iexact HO
  isplitl [Hg1 Hg2 Hr0 Hr1 Hr2]
  · isplitl [Hg1]; · iexact Hg1
    isplitl [Hg2]; · iexact Hg2
    isplitl [Hr0]; · iexact Hr0
    isplitl [Hr1] <;> iassumption
  isplitr
  · isplitr; · iexact R4
    isplitr; · iexact R5
    isplitr; · iexact R9
    isplitr; · iexact R10
    iexact R11
  isplitl [HaB]; · iexact HaB
  isplitl [Hx]; · iexact Hx
  isplitl [Hc0]; · iexact Hc0
  isplitl [H1]; · iexact H1
  isplitl [H2]; · iexact H2
  isplitl [H3]; · iexact H3
  iexact H4

theorem part2 (v27 : FVec F S256x8x128 .bf16) (Kt : _ → sProp 𝕄) :
    iprop(inp I c ∗ (inp I c -∗ Kt ⟨k0_pay2 v27 (cls0 (I.k c)) (cls0 (I.v c)) (I.wo c), k0_pay3 v27 (cls1 (I.k c))⟩)) ⊢ run c (app (k0_part2 (F := F)) v27) Kt := by
  rw [k0_part2_eq_skeleton]
  unfold app k0_part2_skel
  simp only [Prog.lift, Prog.bind_op, Prog.bind_ret, Prog.pure_eq_ret, semSignalWord, semWaitWord, wp_deviceId]
  unfold inp
  iintro ⟨⟨H1, H2, H3, H4⟩, Hk⟩
  iapply (load_owns c m2 _ (Y := cls0 (I.k c)) rfl) $$ H2
  iintro H2
  iapply (load_owns c m3 _ (Y := cls0 (I.v c)) rfl) $$ H3
  iintro H3
  iapply (load_full c m4 hz3) $$ H4
  iintro H4
  iapply (load_owns c m2 _ (Y := cls1 (I.k c)) rfl) $$ H2
  iintro H2
  iapply (run_ret c)
  iapply Hk
  isplitl [H1]; · iexact H1
  isplitl [H2]; · iexact H2
  isplitl [H3]; · iexact H3
  iexact H4

theorem part3 (v27 : FVec F S256x8x128 .bf16) (v62 : FVec F S8x64x1024 .f32) (Kt : _ → sProp 𝕄) :
    iprop(inp I c ∗ (inp I c -∗ Kt ⟨k0_pay4 v62 (cls1 (I.v c)) (I.wo c), k0_pay5 v27 (cls2 (I.k c)) (cls2 (I.v c))⟩)) ⊢ run c (app (k0_part3 (F := F)) v27 v62) Kt := by
  rw [k0_part3_eq_skeleton]
  unfold app k0_part3_skel
  simp only [Prog.lift, Prog.bind_op, Prog.bind_ret, Prog.pure_eq_ret, semSignalWord, semWaitWord, wp_deviceId]
  unfold inp
  iintro ⟨⟨H1, H2, H3, H4⟩, Hk⟩
  iapply (load_owns c m3 _ (Y := cls1 (I.v c)) rfl) $$ H3
  iintro H3
  iapply (load_full c m4 hz3) $$ H4
  iintro H4
  iapply (load_owns c m2 _ (Y := cls2 (I.k c)) rfl) $$ H2
  iintro H2
  iapply (load_owns c m3 _ (Y := cls2 (I.v c)) rfl) $$ H3
  iintro H3
  iapply (run_ret c)
  iapply Hk
  isplitl [H1]; · iexact H1
  isplitl [H2]; · iexact H2
  isplitl [H3]; · iexact H3
  iexact H4

theorem part4 (v7 : BitVec 32) (v27 : FVec F S256x8x128 .bf16) (v51 : FVec F S64x1024 .f32) (v75 : FVec F S64x1024 .f32) (v95 : FVec F S8x64x128 .bf16) (Kt : _ → sProp 𝕄) :
    iprop(inp I c ∗ (inp I c -∗ Kt (k0_pay6 v27 v51 v75 v95 (I.wo c) (cls3 (I.k c)) (cls3 (I.v c)) (I.wo c)))) ⊢ run c (app (k0_part4 (F := F)) v7 v27 v51 v75 v95) Kt := by
  rw [k0_part4_eq_skeleton]
  unfold app k0_part4_skel
  simp only [Prog.lift, Prog.bind_op, Prog.bind_ret, Prog.pure_eq_ret, semSignalWord, semWaitWord, wp_deviceId]
  unfold inp
  iintro ⟨⟨H1, H2, H3, H4⟩, Hk⟩
  iapply (load_full c m4 hz3) $$ H4
  iintro H4
  iapply (load_owns c m2 _ (Y := cls3 (I.k c)) rfl) $$ H2
  iintro H2
  iapply (load_owns c m3 _ (Y := cls3 (I.v c)) rfl) $$ H3
  iintro H3
  iapply (load_full c m4 hz3) $$ H4
  iintro H4
  iapply (run_ret c)
  iapply Hk
  isplitl [H1]; · iexact H1
  isplitl [H2]; · iexact H2
  isplitl [H3]; · iexact H3
  iexact H4

theorem part5 (v7 : BitVec 32) (Kt : _ → sProp 𝕄) :
    iprop(env I κ c ∗ rch (nxt c) 4 ∗ owesE c (due5 c) ∗ crd c 3 ∗ posn c 3 ∗ slotAny gM o1 (nxt c) ∗ tokO c 1 ∗ tokN c 4 ∗ inp I c
        ∗ ((owesE c (due4 c) ∗ over c 3 ∗ slot gM o0 fullShare.right c (gat0 I c) ∗ crd c 1 ∗ inp I c)
          -∗ Kt ⟨k0_pay7 (gat0 I c) (I.wq c), k0_pay8 (gat0 I c) (I.wq c) (cls0 (I.k c))⟩))
      ⊢ run c (app (k0_part5 (F := F)) c v7) Kt := by
  rw [k0_part5_eq_skeleton]
  unfold app k0_part5_skel
  simp only [Prog.lift, Prog.bind_op, Prog.bind_ret, Prog.pure_eq_ret, semSignalWord, semWaitWord, wp_deviceId]
  unfold inp
  iintro ⟨#He, #R4, HO, Hc, Ha, Hn, Ht1, Ht4, ⟨H1, H2, H3, H4⟩, Hk⟩
  iapply (wait_step I κ c 3 (src := xM) (dst := sq gM o0) rfl (credit_slot gM o0) (O := due5 c) (n := 2) (above_due5 c) (by decide)) $$ [Hc HO Ha]
  · isplitr; · iexact He
    isplitl [Hc]; · iexact Hc
    isplitl [HO]; · iexact HO
    iexact Ha
  iintro ⟨HO, Ha, Hp⟩
  ihave Hp2 := ((Entails.of_eq (show pay I c 9 = slot gM o0 fullShare c (gat0 I c) from rfl)).trans (slot_halves gM o0 c fullShare (gat0 I c))) $$ Hp
  icases Hp2 with ⟨Hl, Hg⟩
  iapply (send_slot I κ c 1 4 (dev4_eq c) rfl rfl gM o0 gM o1 (credit_slot gM o1) (O := due5 c) (O' := due4 c) rfl
      (Entails.refl _) (Entails.of_eq (by show _ = slot gM o1 fullShare (nxt c) (gat1 I (nxt c)); unfold gat0 gat1; rw [prv_nxt]))) $$ [Hl Hn HO Ht1 Ht4]
  · isplitr; · iexact He
    isplitr; · iexact R4
    isplitl [Hl]; · iexact Hl
    isplitl [Hn]; · iexact Hn
    isplitl [HO]; · iexact HO
    isplitl [Ht1]; · iexact Ht1
    iexact Ht4
  iintro ⟨Hc1, HO⟩
  iapply (load_slot c gM o0) $$ Hg
  iintro Hg
  iapply (load_full c m1 hz2) $$ H1
  iintro H1
  iapply (load_owns c m2 _ (Y := cls0 (I.k c)) rfl) $$ H2
  iintro H2
  iapply (run_ret c)
  iapply Hk
  isplitl [HO]; · iexact HO
  isplitl [Ha]; · iexact Ha
  isplitl [Hg]; · iexact Hg
  isplitl [Hc1]; · iexact Hc1
  isplitl [H1]; · iexact H1
  isplitl [H2]; · iexact H2
  isplitl [H3]; · iexact H3
  iexact H4

theorem part6 (v147 : FVec F S256x8x128 .bf16) (v162 : FVec F S8x64x1024 .f32) (Kt : _ → sProp 𝕄) :
    iprop(inp I c ∗ (inp I c -∗ Kt ⟨k0_pay9 v162 (cls0 (I.v c)) (I.wo c), k0_pay10 v147 (cls1 (I.k c)) (cls1 (I.v c)) (I.wo c)⟩)) ⊢ run c (app (k0_part6 (F := F)) v147 v162) Kt := by
  rw [k0_part6_eq_skeleton]
  unfold app k0_part6_skel
  simp only [Prog.lift, Prog.bind_op, Prog.bind_ret, Prog.pure_eq_ret, semSignalWord, semWaitWord, wp_deviceId]
  unfold inp
  iintro ⟨⟨H1, H2, H3, H4⟩, Hk⟩
  iapply (load_owns c m3 _ (Y := cls0 (I.v c)) rfl) $$ H3
  iintro H3
  iapply (load_full c m4 hz3) $$ H4
  iintro H4
  iapply (load_owns c m2 _ (Y := cls1 (I.k c)) rfl) $$ H2
  iintro H2
  iapply (load_owns c m3 _ (Y := cls1 (I.v c)) rfl) $$ H3
  iintro H3
  iapply (load_full c m4 hz3) $$ H4
  iintro H4
  iapply (run_ret c)
  iapply Hk
  isplitl [H1]; · iexact H1
  isplitl [H2]; · iexact H2
  isplitl [H3]; · iexact H3
  iexact H4

theorem part7 (v147 : FVec F S256x8x128 .bf16) (v194 : FVec F S8x64x1024 .f32) (Kt : _ → sProp 𝕄) :
    iprop(inp I c ∗ (inp I c -∗ Kt ⟨k0_pay11 v194, k0_pay12 v147 (cls2 (I.k c)) (cls2 (I.v c)) (I.wo c), k0_pay13 v147 (cls3 (I.k c))⟩)) ⊢ run c (app (k0_part7 (F := F)) v147 v194) Kt := by
  rw [k0_part7_eq_skeleton]
  unfold app k0_part7_skel
  simp only [Prog.lift, Prog.bind_op, Prog.bind_ret, Prog.pure_eq_ret, semSignalWord, semWaitWord, wp_deviceId]
  unfold inp
  iintro ⟨⟨H1, H2, H3, H4⟩, Hk⟩
  iapply (load_owns c m2 _ (Y := cls2 (I.k c)) rfl) $$ H2
  iintro H2
  iapply (load_owns c m3 _ (Y := cls2 (I.v c)) rfl) $$ H3
  iintro H3
  iapply (load_full c m4 hz3) $$ H4
  iintro H4
  iapply (load_owns c m2 _ (Y := cls3 (I.k c)) rfl) $$ H2
  iintro H2
  iapply (run_ret c)
  iapply Hk
  isplitl [H1]; · iexact H1
  isplitl [H2]; · iexact H2
  isplitl [H3]; · iexact H3
  iexact H4

theorem part8 (v7 : BitVec 32) (v171 v195 v219 : FVec F S64x1024 .f32) (v229 : FVec F S8x64x1024 .f32)
    (hv : k0_pay14 v171 v195 v219 v229 (cls3 (I.v c)) (I.wo c) = snd0 I c) (Kt : _ → sProp 𝕄) :
    iprop(env I κ c ∗ rch (nxt c) 9 ∗ owesE c (due4 c) ∗ slotAny sM o0 c ∗ slotAny rM o0 (nxt c) ∗ tokO c 6 ∗ tokN c 9 ∗ inp I c
        ∗ ((owesE c (due3 c) ∗ crd c 6 ∗ inp I c) -∗ Kt 1#32))
      ⊢ run c (app (k0_part8 (F := F)) c v7 v171 v195 v219 v229) Kt := by
  rw [k0_part8_eq_skeleton]
  unfold app k0_part8_skel
  simp only [Prog.lift, Prog.bind_op, Prog.bind_ret, Prog.pure_eq_ret, semSignalWord, semWaitWord, wp_deviceId]
  unfold inp
  iintro ⟨#He, #R9, HO, Hs, Hn, Ht6, Ht9, ⟨H1, H2, H3, H4⟩, Hk⟩
  iapply (load_owns c m3 _ (Y := cls3 (I.v c)) rfl) $$ H3
  iintro H3
  iapply (load_full c m4 hz3) $$ H4
  iintro H4
  ihave Hs2 := (slotAny_elim sM o0 c) $$ Hs
  icases Hs2 with ⟨%X, Hs⟩
  iapply (load_slot c sM o0) $$ Hs
  iintro Hs
  iapply (store_slot c sM o0) $$ Hs
  iintro Hs
  rw [hv]
  iapply (send_slot I κ c 6 9 (dev5_eq c) rfl rfl sM o0 rM o0 (credit_slot rM o0) (O := due4 c) (O' := due3 c) rfl
      (slot_any sM o0 c _) (Entails.of_eq (by show _ = slot rM o0 fullShare (nxt c) (snd0 I (prv (nxt c))); rw [prv_nxt]))) $$ [Hs Hn HO Ht6 Ht9]
  · isplitr; · iexact He
    isplitr; · iexact R9
    isplitl [Hs]; · iexact Hs
    isplitl [Hn]; · iexact Hn
    isplitl [HO]; · iexact HO
    isplitl [Ht6]; · iexact Ht6
    iexact Ht9
  iintro ⟨Hc6, HO⟩
  iapply (run_ret c)
  iapply Hk
  isplitl [HO]; · iexact HO
  isplitl [Hc6]; · iexact Hc6
  isplitl [H1]; · iexact H1
  isplitl [H2]; · iexact H2
  isplitl [H3]; · iexact H3
  iexact H4

theorem part9 (v7 u : BitVec 32) (Kt : _ → sProp 𝕄) :
    iprop(env I κ c ∗ rch (nxt c) 5 ∗ owesE c (due3 c) ∗ crd c 4 ∗ posn c 4 ∗ slotAny gM o2 (nxt c) ∗ tokO c 2 ∗ tokN c 5 ∗ inp I c
        ∗ ((owesE c (due2 c) ∗ over c 4 ∗ slot gM o1 fullShare.right c (gat1 I c) ∗ crd c 2 ∗ inp I c)
          -∗ Kt ⟨k0_pay15 (gat1 I c) (I.wq c), k0_pay16 (gat1 I c) (I.wq c) (cls0 (I.k c))⟩))
      ⊢ run c (app (k0_part9 (F := F)) c v7 u) Kt := by
  rw [k0_part9_eq_skeleton]
  unfold app k0_part9_skel
  simp only [Prog.lift, Prog.bind_op, Prog.bind_ret, Prog.pure_eq_ret, semSignalWord, semWaitWord, wp_deviceId]
  unfold inp
  iintro ⟨#He, #R5, HO, Hc, Ha, Hn, Ht2, Ht5, ⟨H1, H2, H3, H4⟩, Hk⟩
  iapply (wait_step I κ c 4 (src := sq gM o0) (dst := sq gM o1) rfl (credit_slot gM o1) (O := due3 c) (n := 4) (above_due3 c) (by decide)) $$ [Hc HO Ha]
  · isplitr; · iexact He
    isplitl [Hc]; · iexact Hc
    isplitl [HO]; · iexact HO
    iexact Ha
  iintro ⟨HO, Ha, Hp⟩
  ihave Hp2 := ((Entails.of_eq (show pay I c 10 = slot gM o1 fullShare c (gat1 I c) from rfl)).trans (slot_halves gM o1 c fullShare (gat1 I c))) $$ Hp
  icases Hp2 with ⟨Hl, Hg⟩
  iapply (send_slot I κ c 2 5 (dev6_eq c) rfl rfl gM o1 gM o2 (credit_slot gM o2) (O := due3 c) (O' := due2 c) rfl
      (Entails.refl _) (Entails.of_eq (by show _ = slot gM o2 fullShare (nxt c) (gat2 I (nxt c)); unfold gat1 gat2; rw [prv_nxt]))) $$ [Hl Hn HO Ht2 Ht5]
  · isplitr; · iexact He
    isplitr; · iexact R5
    isplitl [Hl]; · iexact Hl
    isplitl [Hn]; · iexact Hn
    isplitl [HO]; · iexact HO
    isplitl [Ht2]; · iexact Ht2
    iexact Ht5
  iintro ⟨Hc2, HO⟩
  iapply (load_slot c gM o1) $$ Hg
  iintro Hg
  iapply (load_full c m1 hz2) $$ H1
  iintro H1
  iapply (load_owns c m2 _ (Y := cls0 (I.k c)) rfl) $$ H2
  iintro H2
  iapply (run_ret c)
  iapply Hk
  isplitl [HO]; · iexact HO
  isplitl [Ha]; · iexact Ha
  isplitl [Hg]; · iexact Hg
  isplitl [Hc2]; · iexact Hc2
  isplitl [H1]; · iexact H1
  isplitl [H2]; · iexact H2
  isplitl [H3]; · iexact H3
  iexact H4

theorem part10 (v283 : FVec F S256x8x128 .bf16) (v289 : FVec F S8x64x1024 .f32) (Kt : _ → sProp 𝕄) :
    iprop(inp I c ∗ (inp I c -∗ Kt ⟨k0_pay17 v289 (cls0 (I.v c)) (I.wo c), k0_pay18 v283 (cls1 (I.k c)), k0_pay19 (cls1 (I.v c))⟩)) ⊢ run c (app (k0_part10 (F := F)) v283 v289) Kt := by
  rw [k0_part10_eq_skeleton]
  unfold app k0_part10_skel
  simp only [Prog.lift, Prog.bind_op, Prog.bind_ret, Prog.pure_eq_ret, semSignalWord, semWaitWord, wp_deviceId]
  unfold inp
  iintro ⟨⟨H1, H2, H3, H4⟩, Hk⟩
  iapply (load_owns c m3 _ (Y := cls0 (I.v c)) rfl) $$ H3
  iintro H3
  iapply (load_full c m4 hz3) $$ H4
  iintro H4
  iapply (load_owns c m2 _ (Y := cls1 (I.k c)) rfl) $$ H2
  iintro H2
  iapply (load_owns c m3 _ (Y := cls1 (I.v c)) rfl) $$ H3
  iintro H3
  iapply (run_ret c)
  iapply Hk
  isplitl [H1]; · iexact H1
  isplitl [H2]; · iexact H2
  isplitl [H3]; · iexact H3
  iexact H4

theorem part11 (v283 : FVec F S256x8x128 .bf16) (v323 : FVec F S8x64x1024 .bf16) (v325 : FVec F S8x1024x128 .bf16) (Kt : _ → sProp 𝕄) :
    iprop(inp I c ∗ (inp I c -∗ Kt ⟨k0_pay20 v323 v325 (I.wo c), k0_pay21 v283 (cls2 (I.k c)) (cls2 (I.v c)) (I.wo c), k0_pay22 v283, (cls3 (I.k c))⟩)) ⊢ run c (app (k0_part11 (F := F)) v283 v323 v325) Kt := by
  rw [k0_part11_eq_skeleton]
  unfold app k0_part11_skel
  simp only [Prog.lift, Prog.bind_op, Prog.bind_ret, Prog.pure_eq_ret, semSignalWord, semWaitWord, wp_deviceId]
  unfold inp
  iintro ⟨⟨H1, H2, H3, H4⟩, Hk⟩
  iapply (load_full c m4 hz3) $$ H4
  iintro H4
  iapply (load_owns c m2 _ (Y := cls2 (I.k c)) rfl) $$ H2
  iintro H2
  iapply (load_owns c m3 _ (Y := cls2 (I.v c)) rfl) $$ H3
  iintro H3
  iapply (load_full c m4 hz3) $$ H4
  iintro H4
  iapply (load_owns c m2 _ (Y := cls3 (I.k c)) rfl) $$ H2
  iintro H2
  iapply (run_ret c)
  iapply Hk
  isplitl [H1]; · iexact H1
  isplitl [H2]; · iexact H2
  isplitl [H3]; · iexact H3
  iexact H4

theorem part12 (v7 : BitVec 32) (v307 v331 v355 : FVec F S64x1024 .f32) (v356 : FVec F S64x8x128 .bf16) (v357 : FVec F S1x8x1024x128 .bf16)
    (Kt : _ → sProp 𝕄) :
    iprop(env I κ c ∗ owesE c (due2 c) ∗ crd c 9 ∗ posn c 9 ∗ inp I c
        ∗ ((owesE c (due2 c) ∗ over c 9 ∗ slot rM o0 fullShare c (snd0 I (prv c)) ∗ inp I c)
          -∗ Kt ⟨k0_pay23 v307 v331 v355 v356 v357 (cls3 (I.v c)) (I.wo c), snd0 I (prv c)⟩))
      ⊢ run c (app (k0_part12 (F := F)) v7 v307 v331 v355 v356 v357) Kt := by
  rw [k0_part12_eq_skeleton]
  unfold app k0_part12_skel
  simp only [Prog.lift, Prog.bind_op, Prog.bind_ret, Prog.pure_eq_ret, semSignalWord, semWaitWord, wp_deviceId]
  unfold inp
  iintro ⟨#He, HO, Hc, Ha, ⟨H1, H2, H3, H4⟩, Hk⟩
  iapply (load_owns c m3 _ (Y := cls3 (I.v c)) rfl) $$ H3
  iintro H3
  iapply (load_full c m4 hz3) $$ H4
  iintro H4
  iapply (wait_step I κ c 9 (src := sq sM o0) (dst := sq rM o0) rfl (credit_slot rM o0) (O := due2 c) (n := 5) (above_due2 c) (by decide)) $$ [Hc HO Ha]
  · isplitr; · iexact He
    isplitl [Hc]; · iexact Hc
    isplitl [HO]; · iexact HO
    iexact Ha
  iintro ⟨HO, Ha, Hp⟩
  ihave Hr := (Entails.of_eq (show pay I c 15 = slot rM o0 fullShare c (snd0 I (prv c)) from rfl)) $$ Hp
  iapply (load_slot c rM o0) $$ Hr
  iintro Hr
  iapply (run_ret c)
  iapply Hk
  isplitl [HO]; · iexact HO
  isplitl [Ha]; · iexact Ha
  isplitl [Hr]; · iexact Hr
  isplitl [H1]; · iexact H1
  isplitl [H2]; · iexact H2
  isplitl [H3]; · iexact H3
  iexact H4

theorem part13 (v7 : BitVec 32) (v380 : FVec F S256x1024 .f32) (v389 : FVec F S1x256x1024 .bf16)
    (hv : k0_pay24 v380 v389 = snd1 I c) (Kt : _ → sProp 𝕄) :
    iprop(env I κ c ∗ rch (nxt c) 10 ∗ owesE c (due2 c) ∗ slotAny sM o1 c ∗ slotAny rM o1 (nxt c) ∗ tokO c 7 ∗ tokN c 10 ∗ crd c 5 ∗ posn c 5 ∗ inp I c
        ∗ ((owesE c (due1 c) ∗ crd c 7 ∗ over c 5 ∗ slot gM o2 fullShare c (gat2 I c) ∗ inp I c)
          -∗ Kt ⟨k0_pay25 (gat2 I c), k0_pay26 (I.wq c)⟩))
      ⊢ run c (app (k0_part13 (F := F)) c v7 v380 v389) Kt := by
  rw [k0_part13_eq_skeleton]
  unfold app k0_part13_skel
  simp only [Prog.lift, Prog.bind_op, Prog.bind_ret, Prog.pure_eq_ret, semSignalWord, semWaitWord, wp_deviceId]
  unfold inp
  iintro ⟨#He, #R10, HO, Hs, Hn, Ht7, Ht10, Hc, Ha, ⟨H1, H2, H3, H4⟩, Hk⟩
  ihave Hs2 := (slotAny_elim sM o1 c) $$ Hs
  icases Hs2 with ⟨%X, Hs⟩
  iapply (load_slot c sM o1) $$ Hs
  iintro Hs
  iapply (store_slot c sM o1) $$ Hs
  iintro Hs
  rw [hv]
  iapply (send_slot I κ c 7 10 (dev7_eq c) rfl rfl sM o1 rM o1 (credit_slot rM o1) (O := due2 c) (O' := due1 c) rfl
      (slot_any sM o1 c _) (Entails.of_eq (by show _ = slot rM o1 fullShare (nxt c) (snd1 I (prv (nxt c))); rw [prv_nxt]))) $$ [Hs Hn HO Ht7 Ht10]
  · isplitr; · iexact He
    isplitr; · iexact R10
    isplitl [Hs]; · iexact Hs
    isplitl [Hn]; · iexact Hn
    isplitl [HO]; · iexact HO
    isplitl [Ht7]; · iexact Ht7
    iexact Ht10
  iintro ⟨Hc7, HO⟩
  iapply (wait_step I κ c 5 (src := sq gM o1) (dst := sq gM o2) rfl (credit_slot gM o2) (O := due1 c) (n := 6) (above_due1 c) (by decide)) $$ [Hc HO Ha]
  · isplitr; · iexact He
    isplitl [Hc]; · iexact Hc
    isplitl [HO]; · iexact HO
    iexact Ha
  iintro ⟨HO, Ha, Hp⟩
  ihave Hg := (Entails.of_eq (show pay I c 11 = slot gM o2 fullShare c (gat2 I c) from rfl)) $$ Hp
  iapply (load_slot c gM o2) $$ Hg
  iintro Hg
  iapply (load_full c m1 hz2) $$ H1
  iintro H1
  iapply (run_ret c)
  iapply Hk
  isplitl [HO]; · iexact HO
  isplitl [Hc7]; · iexact Hc7
  isplitl [Ha]; · iexact Ha
  isplitl [Hg]; · iexact Hg
  isplitl [H1]; · iexact H1
  isplitl [H2]; · iexact H2
  isplitl [H3]; · iexact H3
  iexact H4

theorem part14 (v416 : FVec F S256x1024 .bf16) (v418 : FVec F S1024x1024 .bf16) (Kt : _ → sProp 𝕄) :
    iprop(inp I c ∗ (inp I c -∗ Kt ⟨k0_pay27 v416 v418, k0_pay28 v416 v418 (cls0 (I.k c)) (cls0 (I.v c)) (I.wo c), k0_pay29 v416 v418 (cls1 (I.k c)), k0_pay30 v416 v418 (cls1 (I.k c))⟩)) ⊢ run c (app (k0_part14 (F := F)) v416 v418) Kt := by
  rw [k0_part14_eq_skeleton]
  unfold app k0_part14_skel
  simp only [Prog.lift, Prog.bind_op, Prog.bind_ret, Prog.pure_eq_ret, semSignalWord, semWaitWord, wp_deviceId]
  unfold inp
  iintro ⟨⟨H1, H2, H3, H4⟩, Hk⟩
  iapply (load_owns c m2 _ (Y := cls0 (I.k c)) rfl) $$ H2
  iintro H2
  iapply (load_owns c m3 _ (Y := cls0 (I.v c)) rfl) $$ H3
  iintro H3
  iapply (load_full c m4 hz3) $$ H4
  iintro H4
  iapply (load_owns c m2 _ (Y := cls1 (I.k c)) rfl) $$ H2
  iintro H2
  iapply (run_ret c)
  iapply Hk
  isplitl [H1]; · iexact H1
  isplitl [H2]; · iexact H2
  isplitl [H3]; · iexact H3
  iexact H4

theorem part15 (v421 : FVec F S256x8x128 .bf16) (v451 : FVec F S8x64x1024 .f32) (v452 : FVec F S8x64 .f32) (Kt : _ → sProp 𝕄) :
    iprop(inp I c ∗ (inp I c -∗ Kt ⟨k0_pay31 v451 v452 (cls1 (I.v c)) (I.wo c), k0_pay32 v421 (cls2 (I.k c)) (cls2 (I.v c))⟩)) ⊢ run c (app (k0_part15 (F := F)) v421 v451 v452) Kt := by
  rw [k0_part15_eq_skeleton]
  unfold app k0_part15_skel
  simp only [Prog.lift, Prog.bind_op, Prog.bind_ret, Prog.pure_eq_ret, semSignalWord, semWaitWord, wp_deviceId]
  unfold inp
  iintro ⟨⟨H1, H2, H3, H4⟩, Hk⟩
  iapply (load_owns c m3 _ (Y := cls1 (I.v c)) rfl) $$ H3
  iintro H3
  iapply (load_full c m4 hz3) $$ H4
  iintro H4
  iapply (load_owns c m2 _ (Y := cls2 (I.k c)) rfl) $$ H2
  iintro H2
  iapply (load_owns c m3 _ (Y := cls2 (I.v c)) rfl) $$ H3
  iintro H3
  iapply (run_ret c)
  iapply Hk
  isplitl [H1]; · iexact H1
  isplitl [H2]; · iexact H2
  isplitl [H3]; · iexact H3
  iexact H4

theorem part16 (w7 : BitVec 32) (v421 : FVec F S256x8x128 .bf16) (v445 : FVec F S64x1024 .f32) (v469 : FVec F S64x1024 .f32) (v488 : FVec F S8x64x128 .f32) (Kt : _ → sProp 𝕄) :
    iprop(inp I c ∗ (inp I c -∗ Kt ⟨k0_pay33 v421 v445 v469 v488 (I.wo c) (cls3 (I.k c)) (cls3 (I.v c)) (I.wo c), Scalar.muli w7 1#32, 0#32⟩)) ⊢ run c (app (k0_part16 (F := F)) w7 v421 v445 v469 v488) Kt := by
  rw [k0_part16_eq_skeleton]
  unfold app k0_part16_skel
  simp only [Prog.lift, Prog.bind_op, Prog.bind_ret, Prog.pure_eq_ret, semSignalWord, semWaitWord, wp_deviceId]
  unfold inp
  iintro ⟨⟨H1, H2, H3, H4⟩, Hk⟩
  iapply (load_full c m4 hz3) $$ H4
  iintro H4
  iapply (load_owns c m2 _ (Y := cls3 (I.k c)) rfl) $$ H2
  iintro H2
  iapply (load_owns c m3 _ (Y := cls3 (I.v c)) rfl) $$ H3
  iintro H3
  iapply (load_full c m4 hz3) $$ H4
  iintro H4
  iapply (run_ret c)
  iapply Hk
  isplitl [H1]; · iexact H1
  isplitl [H2]; · iexact H2
  isplitl [H3]; · iexact H3
  iexact H4

theorem part17 (v7 : BitVec 32) (v518 : FVec F S256x1024 .f32) (v519 u : BitVec 32)
    (hv : k0_pay34 v518 (snd1 I (prv c)) = snd2 I c) (Kt : _ → sProp 𝕄) :
    iprop(env I κ c ∗ rch (nxt c) 11 ∗ owesE c (due1 c) ∗ slotAny sM o2 c ∗ slotAny rM o2 (nxt c) ∗ tokO c 8 ∗ tokN c 11 ∗ crd c 10 ∗ posn c 10
        ∗ ((owesE c 0 ∗ crd c 8 ∗ over c 10 ∗ slot rM o1 fullShare c (snd1 I (prv c))) -∗ Kt ⟨⟩))
      ⊢ run c (app (k0_part17 (F := F)) c v7 v518 v519 u) Kt := by
  rw [k0_part17_eq_skeleton]
  unfold app k0_part17_skel
  simp only [Prog.lift, Prog.bind_op, Prog.bind_ret, Prog.pure_eq_ret, semSignalWord, semWaitWord, wp_deviceId]
  skip
  iintro ⟨#He, #R11, HO, Hs, Hn, Ht8, Ht11, Hc, Ha, Hk⟩
  iapply (wait_step I κ c 10 (src := sq sM o1) (dst := sq rM o1) rfl (credit_slot rM o1) (O := due1 c) (n := 6) (above_due1 c) (by decide)) $$ [Hc HO Ha]
  · isplitr; · iexact He
    isplitl [Hc]; · iexact Hc
    isplitl [HO]; · iexact HO
    iexact Ha
  iintro ⟨HO, Ha, Hp⟩
  ihave Hr := (Entails.of_eq (show pay I c 16 = slot rM o1 fullShare c (snd1 I (prv c)) from rfl)) $$ Hp
  iapply (load_slot c rM o1) $$ Hr
  iintro Hr
  ihave Hs2 := (slotAny_elim sM o2 c) $$ Hs
  icases Hs2 with ⟨%X, Hs⟩
  iapply (load_slot c sM o2) $$ Hs
  iintro Hs
  iapply (store_slot c sM o2) $$ Hs
  iintro Hs
  rw [hv]
  iapply (send_slot I κ c 8 11 (dev8_eq c) rfl rfl sM o2 rM o2 (credit_slot rM o2) (O := due1 c) (O' := (fun _ => 0) c) rfl
      (slot_any sM o2 c _) (Entails.of_eq (by show _ = slot rM o2 fullShare (nxt c) (snd2 I (prv (nxt c))); rw [prv_nxt]))) $$ [Hs Hn HO Ht8 Ht11]
  · isplitr; · iexact He
    isplitr; · iexact R11
    isplitl [Hs]; · iexact Hs
    isplitl [Hn]; · iexact Hn
    isplitl [HO]; · iexact HO
    isplitl [Ht8]; · iexact Ht8
    iexact Ht11
  iintro ⟨Hc8, HO⟩
  iapply (run_ret c)
  iapply Hk
  isplitl [HO]; · iexact HO
  isplitl [Hc8]; · iexact Hc8
  isplitl [Ha]; · iexact Ha
  iexact Hr

theorem part18 (v124 : FVec F S256x1024 .f32) (hv : k0_pay35 v124 (snd2 I (prv c)) = res I c) (Kt : _ → sProp 𝕄) :
    iprop(env I κ c ∗ owesE c 0 ∗ crd c 11 ∗ posn c 11 ∗ (∃ X, owns (c : Thread nD τ) m5 fullShare X) ∗ crd c 0 ∗ posn c 0 ∗ crd c 1 ∗ posn c 1
        ∗ ((owesE c 0 ∗ over c 11 ∗ slot rM o2 fullShare c (snd2 I (prv c)) ∗ owns (c : Thread nD τ) m5 fullShare (res I c)
            ∗ over c 0 ∗ over c 1 ∗ xPts I fullShare.left c ∗ slot gM o0 fullShare.left c (gat0 I c)) -∗ Kt ⟨⟩))
      ⊢ run c (app (k0_part18 (F := F)) v124) Kt := by
  rw [k0_part18_eq_skeleton]
  unfold app k0_part18_skel
  simp only [Prog.lift, Prog.bind_op, Prog.bind_ret, Prog.pure_eq_ret, semSignalWord, semWaitWord, wp_deviceId]
  skip
  iintro ⟨#He, HO, Hc, Ha, ⟨%X, Hout⟩, Hc0, Ha0, Hc1, Ha1, Hk⟩
  iapply (wait_step I κ c 11 (src := sq sM o2) (dst := sq rM o2) rfl (credit_slot rM o2) (O := 0) (n := 7) (above_zero 7) (by decide)) $$ [Hc HO Ha]
  · isplitr; · iexact He
    isplitl [Hc]; · iexact Hc
    isplitl [HO]; · iexact HO
    iexact Ha
  iintro ⟨HO, Ha, Hp⟩
  ihave Hr := (Entails.of_eq (show pay I c 17 = slot rM o2 fullShare c (snd2 I (prv c)) from rfl)) $$ Hp
  iapply (load_slot c rM o2) $$ Hr
  iintro Hr
  iapply (load_full c m5 hz2) $$ Hout
  iintro Hout
  iapply (store_full c m5 hz2) $$ Hout
  iintro Hout
  rw [hv]
  iapply (wait_step I κ c 0 (src := sq gM o0) (dst := xM) rfl credit_x (O := 0) (n := 7) (above_zero 7) (by decide)) $$ [Hc0 HO Ha0]
  · isplitr; · iexact He
    isplitl [Hc0]; · iexact Hc0
    isplitl [HO]; · iexact HO
    iexact Ha0
  iintro ⟨HO, Ha0, Hp⟩
  ihave Hx := (Entails.of_eq (show pay I c 6 = xPts I fullShare.left c from rfl)) $$ Hp
  iapply (wait_step I κ c 1 (src := sq gM o1) (dst := sq gM o0) rfl (credit_slot gM o0) (O := 0) (n := 7) (above_zero 7) (by decide)) $$ [Hc1 HO Ha1]
  · isplitr; · iexact He
    isplitl [Hc1]; · iexact Hc1
    isplitl [HO]; · iexact HO
    iexact Ha1
  iintro ⟨HO, Ha1, Hp⟩
  ihave Hg := (Entails.of_eq (show pay I c 7 = slot gM o0 fullShare.left c (gat0 I c) from rfl)) $$ Hp
  iapply (run_ret c)
  iapply Hk
  isplitl [HO]; · iexact HO
  isplitl [Ha]; · iexact Ha
  isplitl [Hr]; · iexact Hr
  isplitl [Hout]; · iexact Hout
  isplitl [Ha0]; · iexact Ha0
  isplitl [Ha1]; · iexact Ha1
  isplitl [Hx]; · iexact Hx
  iexact Hg

end Cert.KernelIdeal.Ring

end
-- ==== Proof.KernelIdeal.Body.lean ====
/-
# The whole body

The parts joined: from the launch's state of device `c` to its result stored, every buffer back and every semaphore at zero.
-/
module

public import proofs.«01_k».proof.Proof.KernelIdeal.Parts

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

variable (κ : GSem nD τ sig → ℕ) (c : Dev nD)

omit [FloatOps F] in
/-- The two halves of a slot join. -/
theorem slot_join (m : Memref sig .tc .vmem S3x256x1024 .bf16) (o : Off) (X Y : FVec F S1x256x1024 .bf16) :
    iprop(slot m o fullShare.left c X ∗ slot m o fullShare.right c Y) ⊢ (slotAny m o c : sProp 𝕄) := by
  unfold slot slotAny
  iintro ⟨⟨%f, -, H₁⟩, ⟨%g, -, H₂⟩⟩
  iapply (show iprop(slPts m o fullShare.left c f ∗ slPts m o fullShare.right c g)
      ⊢ (iprop(∃ f, slPts m o fullShare c f) : sProp 𝕄) from
    pure_elim _ pointsTo_agree fun h => by
      unfold slPts
      rw [pointsTo_congr (f := g) (g := f) (fun i hi => ((h i (Finset.mem_inter.mpr ⟨hi, hi⟩)).1).symm)]
      iintro H
      iexists f
      iapply (pointsTo_share (PosShare.mem_left_op_right fullShare)).2
      iexact H) $$ [H₁ H₂]
  isplitl [H₁] <;> iassumption

/-- A cell whose round is over gives its counter back at zero. -/
theorem cell_done (g : GSem nD τ sig) (hg : g ∈ (barCells ∪ scCells : Finset (GSem nD τ sig))) :
    iprop(env I κ c ∗ atPos ER g 1 ∅ 0) ⊢ (|={Set.univ}=> semVal g 0 : sProp 𝕄) := by
  iintro ⟨#He, H⟩
  iapply (Rounds.cell_close ER (Rd I) (Set.mem_univ (κ g)) id (duties_later I g))
  isplitr; · iapply (env_inv I κ c hg); iexact He
  iexact H
theorem mem_cell (d : Dev nD) (k : Fin 12) : cell d k ∈ (barCells ∪ scCells : Finset (GSem nD τ sig)) :=
  Finset.mem_union_right _ (Finset.mem_map_of_mem scEmb (Finset.mem_univ (d, k)))
theorem mem_bar (d : Dev nD) : barCell d ∈ (barCells ∪ scCells : Finset (GSem nD τ sig)) :=
  Finset.mem_union_left _ (Finset.mem_map_of_mem barEmb (Finset.mem_univ d))

/-- The three-slot buffers, each slot at contents not chosen. -/
def slots (c : Dev nD) : sProp 𝕄 :=
  iprop(slotAny gM o0 c ∗ slotAny gM o1 c ∗ slotAny gM o2 c ∗ slotAny rM o0 c ∗ slotAny rM o1 c ∗ slotAny rM o2 c
    ∗ slotAny sM o0 c ∗ slotAny sM o1 c ∗ slotAny sM o2 c)

/-- What the protocol gives the body at the start. -/
def ghost : sProp 𝕄 :=
  iprop(env I κ c ∗ (dutyTok ER (barCell (prv c)) 0 true ∗ dutyTok ER (barCell (nxt c)) 0 false ∗ atPos ER (barCell c) 0 ∅ 0
      ∗ cred (tallyAt (barCell c) () 2))
    ∗ (tokO c 0 ∗ tokO c 1 ∗ tokO c 2 ∗ tokN c 3 ∗ tokN c 4 ∗ tokN c 5 ∗ tokO c 6 ∗ tokO c 7 ∗ tokO c 8 ∗ tokN c 9 ∗ tokN c 10 ∗ tokN c 11)
    ∗ (crd c 3 ∗ crd c 4 ∗ crd c 5 ∗ crd c 9 ∗ crd c 10 ∗ crd c 11)
    ∗ (posn c 0 ∗ posn c 1 ∗ posn c 2 ∗ posn c 3 ∗ posn c 4 ∗ posn c 5 ∗ posn c 6 ∗ posn c 7 ∗ posn c 8 ∗ posn c 9 ∗ posn c 10 ∗ posn c 11))

/-- The semaphores back at zero. -/
def zeros : sProp 𝕄 :=
  iprop(semVal (cell c 0) 0 ∗ semVal (cell c 1) 0 ∗ semVal (cell c 2) 0 ∗ semVal (cell c 3) 0 ∗ semVal (cell c 4) 0 ∗ semVal (cell c 5) 0
    ∗ semVal (cell c 6) 0 ∗ semVal (cell c 7) 0 ∗ semVal (cell c 8) 0 ∗ semVal (cell c 9) 0 ∗ semVal (cell c 10) 0 ∗ semVal (cell c 11) 0)

/-- What the body leaves. -/
def done : sProp 𝕄 :=
  iprop(owesE c 0 ∗ semVal (barCell c) 0 ∗ zeros c ∗ slots c ∗ xPts I fullShare c ∗ inp I c ∗ owns (c : Thread nD τ) m5 fullShare (res I c))

set_option maxHeartbeats 1600000 in
theorem body_run (Kt : PUnit → sProp 𝕄) :
    iprop(ghost I κ c ∗ owesE c (O₀ c) ∗ slots c ∗ xPts I fullShare c ∗ inp I c ∗ (∃ X, owns (c : Thread nD τ) m5 fullShare X)
        ∗ (done I c -∗ Kt ⟨⟩))
      ⊢ run c (app (cc0_body (F := F))) Kt := by
  rw [cc0_body_eq_skeleton]
  unfold app cc0_body_skel
  rw [k0_part19_eq_skeleton]
  unfold k0_part19_skel
  simp only [Prog.lift, Prog.bind_op, Prog.bind_ret, Prog.pure_eq_ret, wp_bind]
  unfold ghost slots
  iintro ⟨⟨#He, ⟨HtP, HtN, HaB, HcB⟩, ⟨T0, T1, T2, T3, T4, T5, T6, T7, T8, T9, T10, T11⟩, ⟨C3, C4, C5, C9, C10, C11⟩,
    ⟨A0, A1, A2, A3, A4, A5, A6, A7, A8, A9, A10, A11⟩⟩, HO, ⟨G0, G1, G2, R0, R1, R2, S0, S1, S2⟩, Hx, Hi, Hout, Hk⟩
  iapply (part1 I κ c)
  isplitr; · iexact He
  isplitl [HO]; · iexact HO
  isplitl [G0 G1 G2 R0 R1 R2]
  · isplitl [G0]; · iexact G0
    isplitl [G1]; · iexact G1
    isplitl [G2]; · iexact G2
    isplitl [R0]; · iexact R0
    isplitl [R1] <;> iassumption
  isplitl [HtP]; · iexact HtP
  isplitl [HtN]; · iexact HtN
  isplitl [HaB]; · iexact HaB
  isplitl [HcB]; · iexact HcB
  isplitl [Hx]; · iexact Hx
  isplitl [T0]; · iexact T0
  isplitl [T3]; · iexact T3
  isplitl [Hi]; · iexact Hi
  iintro ⟨HO, ⟨G1, G2, R0, R1, R2⟩, ⟨#N4, #N5, #N9, #N10, #N11⟩, HaB, Hx, C0, Hi⟩
  try dsimp only
  iapply (part2 I c _)
  isplitl [Hi]; · iexact Hi
  iintro Hi
  try dsimp only
  iapply (part3 I c _ _)
  isplitl [Hi]; · iexact Hi
  iintro Hi
  try dsimp only
  iapply (part4 I c _ _ _ _ _)
  isplitl [Hi]; · iexact Hi
  iintro Hi
  try dsimp only
  iapply (part5 I κ c _)
  isplitr; · iexact He
  isplitr; · iexact N4
  isplitl [HO]; · iexact HO
  isplitl [C3]; · iexact C3
  isplitl [A3]; · iexact A3
  isplitl [G1]; · iexact G1
  isplitl [T1]; · iexact T1
  isplitl [T4]; · iexact T4
  isplitl [Hi]; · iexact Hi
  iintro ⟨HO, A3, G0, C1, Hi⟩
  try dsimp only
  iapply (part6 I c _ _)
  isplitl [Hi]; · iexact Hi
  iintro Hi
  try dsimp only
  iapply (part7 I c _ _)
  isplitl [Hi]; · iexact Hi
  iintro Hi
  try dsimp only
  iapply (part8 I κ c _ _ _ _ _ rfl)
  isplitr; · iexact He
  isplitr; · iexact N9
  isplitl [HO]; · iexact HO
  isplitl [S0]; · iexact S0
  isplitl [R0]; · iexact R0
  isplitl [T6]; · iexact T6
  isplitl [T9]; · iexact T9
  isplitl [Hi]; · iexact Hi
  iintro ⟨HO, C6, Hi⟩
  try dsimp only
  iapply (part9 I κ c _ _)
  isplitr; · iexact He
  isplitr; · iexact N5
  isplitl [HO]; · iexact HO
  isplitl [C4]; · iexact C4
  isplitl [A4]; · iexact A4
  isplitl [G2]; · iexact G2
  isplitl [T2]; · iexact T2
  isplitl [T5]; · iexact T5
  isplitl [Hi]; · iexact Hi
  iintro ⟨HO, A4, G1, C2, Hi⟩
  try dsimp only
  iapply (part10 I c _ _)
  isplitl [Hi]; · iexact Hi
  iintro Hi
  try dsimp only
  iapply (part11 I c _ _ _)
  isplitl [Hi]; · iexact Hi
  iintro Hi
  try dsimp only
  iapply (part12 I κ c _ _ _ _ _ _)
  isplitr; · iexact He
  isplitl [HO]; · iexact HO
  isplitl [C9]; · iexact C9
  isplitl [A9]; · iexact A9
  isplitl [Hi]; · iexact Hi
  iintro ⟨HO, A9, R0, Hi⟩
  try dsimp only
  iapply (part13 I κ c _ _ _ rfl)
  isplitr; · iexact He
  isplitr; · iexact N10
  isplitl [HO]; · iexact HO
  isplitl [S1]; · iexact S1
  isplitl [R1]; · iexact R1
  isplitl [T7]; · iexact T7
  isplitl [T10]; · iexact T10
  isplitl [C5]; · iexact C5
  isplitl [A5]; · iexact A5
  isplitl [Hi]; · iexact Hi
  iintro ⟨HO, C7, A5, G2, Hi⟩
  try dsimp only
  iapply (part14 I c _ _)
  isplitl [Hi]; · iexact Hi
  iintro Hi
  try dsimp only
  iapply (part15 I c _ _ _)
  isplitl [Hi]; · iexact Hi
  iintro Hi
  try dsimp only
  iapply (part16 I c _ _ _ _ _)
  isplitl [Hi]; · iexact Hi
  iintro Hi
  try dsimp only
  iapply (part17 I κ c _ _ _ _ rfl)
  isplitr; · iexact He
  isplitr; · iexact N11
  isplitl [HO]; · iexact HO
  isplitl [S2]; · iexact S2
  isplitl [R2]; · iexact R2
  isplitl [T8]; · iexact T8
  isplitl [T11]; · iexact T11
  isplitl [C10]; · iexact C10
  isplitl [A10]; · iexact A10
  iintro ⟨HO, C8, A10, R1⟩
  try dsimp only
  iapply (part18 I κ c _ rfl)
  isplitr; · iexact He
  isplitl [HO]; · iexact HO
  isplitl [C11]; · iexact C11
  isplitl [A11]; · iexact A11
  isplitl [Hout]; · iexact Hout
  isplitl [C0]; · iexact C0
  isplitl [A0]; · iexact A0
  isplitl [C1]; · iexact C1
  isplitl [A1]; · iexact A1
  iintro ⟨HO, A11, R2, Hout, A0, A1, Hxl, G0l⟩
  try dsimp only
  iapply (wait_step I κ c 2 (src := sq gM o2) (dst := sq gM o1) rfl (credit_slot gM o1) (O := 0) (n := 7) (above_zero 7) (by decide)) $$ [C2 HO A2]
  · isplitr; · iexact He
    isplitl [C2]; · iexact C2
    isplitl [HO]; · iexact HO
    iexact A2
  iintro ⟨HO, A2, Hp⟩
  ihave G1l := (Entails.of_eq (show pay I c 8 = slot gM o1 fullShare.left c (gat1 I c) from rfl)) $$ Hp
  iapply (wait_step I κ c 6 (src := sq rM o0) (dst := sq sM o0) rfl (credit_slot sM o0) (O := 0) (n := 7) (above_zero 7) (by decide)) $$ [C6 HO A6]
  · isplitr; · iexact He
    isplitl [C6]; · iexact C6
    isplitl [HO]; · iexact HO
    iexact A6
  iintro ⟨HO, A6, Hp⟩
  ihave S0 := (Entails.of_eq (show pay I c 12 = slotAny sM o0 c from rfl)) $$ Hp
  iapply (wait_step I κ c 7 (src := sq rM o1) (dst := sq sM o1) rfl (credit_slot sM o1) (O := 0) (n := 7) (above_zero 7) (by decide)) $$ [C7 HO A7]
  · isplitr; · iexact He
    isplitl [C7]; · iexact C7
    isplitl [HO]; · iexact HO
    iexact A7
  iintro ⟨HO, A7, Hp⟩
  ihave S1 := (Entails.of_eq (show pay I c 13 = slotAny sM o1 c from rfl)) $$ Hp
  iapply (run_ret c)
  iapply (wait_step I κ c 8 (src := sq rM o2) (dst := sq sM o2) rfl (credit_slot sM o2) (O := 0) (n := 7) (above_zero 7) (by decide)) $$ [C8 HO A8]
  · isplitr; · iexact He
    isplitl [C8]; · iexact C8
    isplitl [HO]; · iexact HO
    iexact A8
  iintro ⟨HO, A8, Hp⟩
  ihave S2 := (Entails.of_eq (show pay I c 14 = slotAny sM o2 c from rfl)) $$ Hp
  unfold run
  rw [wp_ret]
  imod (cell_done I κ c (barCell c) (mem_bar c)) $$ [HaB] with HZ
  · isplitr; · iexact He
    iexact HaB
  imod (cell_done I κ c (cell c 0) (mem_cell c 0)) $$ [A0] with Z0
  · isplitr; · iexact He
    iexact A0
  imod (cell_done I κ c (cell c 1) (mem_cell c 1)) $$ [A1] with Z1
  · isplitr; · iexact He
    iexact A1
  imod (cell_done I κ c (cell c 2) (mem_cell c 2)) $$ [A2] with Z2
  · isplitr; · iexact He
    iexact A2
  imod (cell_done I κ c (cell c 3) (mem_cell c 3)) $$ [A3] with Z3
  · isplitr; · iexact He
    iexact A3
  imod (cell_done I κ c (cell c 4) (mem_cell c 4)) $$ [A4] with Z4
  · isplitr; · iexact He
    iexact A4
  imod (cell_done I κ c (cell c 5) (mem_cell c 5)) $$ [A5] with Z5
  · isplitr; · iexact He
    iexact A5
  imod (cell_done I κ c (cell c 6) (mem_cell c 6)) $$ [A6] with Z6
  · isplitr; · iexact He
    iexact A6
  imod (cell_done I κ c (cell c 7) (mem_cell c 7)) $$ [A7] with Z7
  · isplitr; · iexact He
    iexact A7
  imod (cell_done I κ c (cell c 8) (mem_cell c 8)) $$ [A8] with Z8
  · isplitr; · iexact He
    iexact A8
  imod (cell_done I κ c (cell c 9) (mem_cell c 9)) $$ [A9] with Z9
  · isplitr; · iexact He
    iexact A9
  imod (cell_done I κ c (cell c 10) (mem_cell c 10)) $$ [A10] with Z10
  · isplitr; · iexact He
    iexact A10
  imod (cell_done I κ c (cell c 11) (mem_cell c 11)) $$ [A11] with Z11
  · isplitr; · iexact He
    iexact A11
  imodintro
  iapply Hk
  unfold done zeros slots
  isplitl [HO]; · iexact HO
  isplitl [HZ]; · iexact HZ
  isplitl [Z0 Z1 Z2 Z3 Z4 Z5 Z6 Z7 Z8 Z9 Z10 Z11]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    iexact Z11
  isplitl [G0 G1 G2 R0 R1 R2 S0 S1 S2 G0l G1l]
  · isplitl [G0 G0l]; · iapply (slot_join c gM o0); isplitl [G0l] <;> iassumption
    isplitl [G1 G1l]; · iapply (slot_join c gM o1); isplitl [G1l] <;> iassumption
    isplitl [G2]; · iapply (slot_any gM o2 c); iexact G2
    isplitl [R0]; · iapply (slot_any rM o0 c); iexact R0
    isplitl [R1]; · iapply (slot_any rM o1 c); iexact R1
    isplitl [R2]; · iapply (slot_any rM o2 c); iexact R2
    isplitl [S0]; · iexact S0
    isplitl [S1] <;> iassumption
  isplitl [Hx Hxl]
  · iapply (owns_halves (c : Thread nD τ) xM fullShare (I.x c)).2
    isplitl [Hxl] <;> iassumption
  isplitl [Hi]; · iexact Hi
  iexact Hout

end Cert.KernelIdeal.Ring

end
-- ==== Proof.KernelIdeal.Slots.lean ====
/-
# A three-slot buffer and its slots

A three-slot buffer held whole, at contents not chosen, is its three slots held each at contents not chosen.
-/
module

public import proofs.«01_k».proof.Proof.KernelIdeal.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Elements in three disjoint parts: the whole is the parts. -/
theorem three_parts {ℓ : Loc nD τ sig} (A B C : Finset (Idx ℓ)) (hAB : Disjoint A B) (hC : Disjoint (A ∪ B) C) (hU : A ∪ B ∪ C = Finset.univ) :
    (iprop(∃ f : Buf (Elt F) ℓ, ℓ ↦{fullShare} f) : sProp 𝕄)
      ⊣⊢ iprop((∃ f : Buf (Elt F) ℓ, ℓ ↦[A]{fullShare} f) ∗ (∃ f : Buf (Elt F) ℓ, ℓ ↦[B]{fullShare} f) ∗ (∃ f : Buf (Elt F) ℓ, ℓ ↦[C]{fullShare} f)) := by
  constructor
  · iintro ⟨%f, H⟩
    ihave H1 := (show (ℓ ↦{fullShare} f : sProp 𝕄) ⊢ iprop(((ℓ ↦[A]{fullShare} f) ∗ (ℓ ↦[B]{fullShare} f)) ∗ (ℓ ↦[C]{fullShare} f)) from
      (Entails.of_eq (by rw [hU])).trans ((pointsTo_union hC).1.trans (sep_mono_left (pointsTo_union hAB).1))) $$ H
    icases H1 with ⟨⟨HA, HB⟩, HC⟩
    isplitl [HA]; · iexists f; iexact HA
    isplitl [HB]; · iexists f; iexact HB
    iexists f; iexact HC
  · iintro ⟨⟨%f, HA⟩, ⟨%g, HB⟩, ⟨%h, HC⟩⟩
    ihave H1 := (pointsTo_join hAB) $$ [HA HB]
    · isplitl [HA]; · iexact HA
      iexact HB
    ihave H2 := (pointsTo_join hC) $$ [H1 HC]
    · isplitl [H1]; · iexact H1
      iexact HC
    iexists (C.piecewise h (B.piecewise g f))
    iapply (Entails.of_eq (by rw [hU])) $$ H2

theorem mem_rc (o : Off) (h1 : o.1 1 = 0) (h2 : o.1 2 = 0) (i : S3x256x1024.Idx) : i ∈ (rc o).set ↔ (i 0).val = o.1 0 := by
  rw [Rect.mem_set_unit]
  constructor
  · intro h
    have := h 0
    have e : S1x256x1024.size 0 = 1 := rfl
    omega
  · intro h a
    match a with
    | 0 => exact ⟨h.ge, by have e : S1x256x1024.size 0 = 1 := rfl; omega⟩
    | 1 => exact ⟨by omega, by have e : S1x256x1024.size 1 = 256 := rfl; have : (i 1).val < 256 := (i 1).isLt; omega⟩
    | 2 => exact ⟨by omega, by have e : S1x256x1024.size 2 = 1024 := rfl; have : (i 2).val < 1024 := (i 2).isLt; omega⟩

theorem slots_disj01 : Disjoint (rc o0).set (rc o1).set := by
  rw [Finset.disjoint_left]; intro i h h'
  rw [mem_rc _ rfl rfl] at h h'
  have : o0.1 0 = 0 := rfl
  have : o1.1 0 = 1 := rfl
  omega
theorem slots_disj2 : Disjoint ((rc o0).set ∪ (rc o1).set) (rc o2).set := by
  rw [Finset.disjoint_left]; intro i h h'
  rw [Finset.mem_union, mem_rc _ rfl rfl, mem_rc _ rfl rfl] at h
  rw [mem_rc _ rfl rfl] at h'
  have : o0.1 0 = 0 := rfl
  have : o1.1 0 = 1 := rfl
  have : o2.1 0 = 2 := rfl
  omega
theorem slots_cover : (rc o0).set ∪ (rc o1).set ∪ (rc o2).set = Finset.univ := by
  ext i
  have hi : (i 0).val < 3 := (i 0).isLt
  simp only [Finset.mem_union, mem_rc o0 rfl rfl, mem_rc o1 rfl rfl, mem_rc o2 rfl rfl, Finset.mem_univ, iff_true]
  show ((i 0).val = 0 ∨ (i 0).val = 1) ∨ (i 0).val = 2
  omega

theorem set_g (o : Off) : (sq gM o).view.set = (rc o).set :=
  (View.set_reshape _ _).trans (View.set_slice_whole cc0_scratch0 (rc o))
theorem set_s (o : Off) : (sq sM o).view.set = (rc o).set :=
  (View.set_reshape _ _).trans (View.set_slice_whole cc0_scratch1 (rc o))
theorem set_r (o : Off) : (sq rM o).view.set = (rc o).set :=
  (View.set_reshape _ _).trans (View.set_slice_whole cc0_scratch2 (rc o))

theorem parts_g (c : Dev nD) : (iprop(∃ f : Buf (Elt F) ((c : Thread nD τ).loc cc0_scratch0), ((c : Thread nD τ).loc cc0_scratch0) ↦{fullShare} f) : sProp 𝕄)
    ⊣⊢ iprop(slotAny gM o0 c ∗ slotAny gM o1 c ∗ slotAny gM o2 c) := by
  unfold slotAny slPts
  rw [set_g, set_g, set_g]
  exact three_parts (ℓ := (c : Thread nD τ).loc cc0_scratch0) (rc o0).set (rc o1).set (rc o2).set slots_disj01 slots_disj2 slots_cover
theorem parts_s (c : Dev nD) : (iprop(∃ f : Buf (Elt F) ((c : Thread nD τ).loc cc0_scratch1), ((c : Thread nD τ).loc cc0_scratch1) ↦{fullShare} f) : sProp 𝕄)
    ⊣⊢ iprop(slotAny sM o0 c ∗ slotAny sM o1 c ∗ slotAny sM o2 c) := by
  unfold slotAny slPts
  rw [set_s, set_s, set_s]
  exact three_parts (ℓ := (c : Thread nD τ).loc cc0_scratch1) (rc o0).set (rc o1).set (rc o2).set slots_disj01 slots_disj2 slots_cover
theorem parts_r (c : Dev nD) : (iprop(∃ f : Buf (Elt F) ((c : Thread nD τ).loc cc0_scratch2), ((c : Thread nD τ).loc cc0_scratch2) ↦{fullShare} f) : sProp 𝕄)
    ⊣⊢ iprop(slotAny rM o0 c ∗ slotAny rM o1 c ∗ slotAny rM o2 c) := by
  unfold slotAny slPts
  rw [set_r, set_r, set_r]
  exact three_parts (ℓ := (c : Thread nD τ).loc cc0_scratch2) (rc o0).set (rc o1).set (rc o2).set slots_disj01 slots_disj2 slots_cover

/-- The region's buffers that no window stages are the nine slots. -/
theorem rest_slots (c : Dev nD) :
    (Pipeline.scopedRest (Ix := Unit) (Name := ℕ) (U := UU) (Lvl := ℕ) (Val := Elt F) spec0 c : sProp 𝕄) ⊣⊢ slots c := by
  rw [scopedRest0_eq]
  unfold slots
  constructor
  · iintro ⟨Hg, Hs, Hr⟩
    ihave Hg := (parts_g c).1 $$ Hg
    ihave Hs := (parts_s c).1 $$ Hs
    ihave Hr := (parts_r c).1 $$ Hr
    icases Hg with ⟨G0, G1, G2⟩
    icases Hs with ⟨S0, S1, S2⟩
    icases Hr with ⟨R0, R1, R2⟩
    isplitl [G0]; · iexact G0
    isplitl [G1]; · iexact G1
    isplitl [G2]; · iexact G2
    isplitl [R0]; · iexact R0
    isplitl [R1]; · iexact R1
    isplitl [R2]; · iexact R2
    isplitl [S0]; · iexact S0
    isplitl [S1]; · iexact S1
    iexact S2
  · iintro ⟨G0, G1, G2, R0, R1, R2, S0, S1, S2⟩
    isplitl [G0 G1 G2]
    · iapply (parts_g c).2
      isplitl [G0]; · iexact G0
      isplitl [G1]; · iexact G1
      iexact G2
    isplitl [S0 S1 S2]
    · iapply (parts_s c).2
      isplitl [S0]; · iexact S0
      isplitl [S1]; · iexact S1
      iexact S2
    iapply (parts_r c).2
    isplitl [R0]; · iexact R0
    isplitl [R1]; · iexact R1
    iexact R2

end Cert.KernelIdeal.Ring
-- ==== Proof.KernelIdeal.Region.lean ====
/-
# The kernel's region: from the memory before it to the memory after it

The input blocks are what the host's operations leave in the window arrays. The proof data of the one pipeline, the body's
obligation, the transfer cells opened at the region's entry, and the region's record.
-/
module

public import proofs.«01_k».proof.Proof.KernelIdeal.Slots
public import Idealize.ShloMosaic.Lib.Pipeline.ValueKit

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F))

/-- What the devices' window arrays hold when the kernel starts, the buffers then holding `V`. -/
def ins : Ins F where
  x c := V c main_v5
  wq c := V c main_arg1
  k c := V c main_v15
  v c := V c main_v24
  wo c := V c main_v6

/-- The buffers after the kernel. -/
def aft (c : Dev nD) : Valuation τ sig (Elt F) := Function.update (V c) main_v25 (res (ins V) c)

/-! ## The proof data -/

variable (κ : GSem nD τ sig → ℕ)

/-- What the protocol keeps for the body, under some map of names. -/
def Xk (c : Dev nD) : sProp 𝕄 := iprop(∃ κ, ghost (ins V) κ c)
def Yk (c : Dev nD) : sProp 𝕄 := semVal (barCell c) 0

def phi (c : Dev nD) (n : ℕ) : sProp 𝕄 :=
  if n = 0 then iprop(Xk V c ∗ slots c ∗ ∃ r, prngReg c r) else iprop(Yk c ∗ zeros c ∗ slots c ∗ ∃ r, prngReg c r)
def owd (c : Dev nD) (n : ℕ) : CellTallies nD τ sig Unit := if n = 0 then O₀ c else 0

def dat (c : Dev nD) : Pipeline.Dat τ (Elt F) Unit ℕ UU ℕ cfg0 c where
  A w := V c (Pipeline.arrRef spec0 w)
  after w _ := match w with
    | 0 => (ins V).x c
    | 1 => (ins V).wq c
    | 2 => (ins V).k c
    | 3 => (ins V).v c
    | 4 => (ins V).wo c
    | 5 => res (ins V) c
  Φ t := phi V c t.val
  q _ := fullShare
  owed t := owd c t.val

abbrev pdats : (p : Fin 1) → (c : Dev nD) → Pipeline.Dat τ (Elt F) Unit ℕ UU ℕ (cfgs p) c := fun _ => dat V

theorem owed_zero (c : Dev nD) : (pdats V 0 c).owed 0 = O₀ c := by
  show owd c 0 = O₀ c; exact if_pos rfl
theorem owed_last (c : Dev nD) : (pdats V 0 c).owed (Fin.last _) = 0 := by
  show owd c (Fin.last cfg0.N).val = 0
  rw [Fin.val_last, show cfg0.N = 1 from N_0]; exact if_neg (by decide)

theorem before0 (c : Dev nD) (t : Fin cfg0.N) (d) : (dat V c).before 0 t d = (ins V).x c :=
  ((dat V c).before_fetched 0 t (fetch0_0 t) d).trans (by
    funext y
    show V c main_v5 (((cfg0.win 0).blk t).view.emb y) = V c main_v5 y
    congr 1; funext a; apply Fin.ext
    blk_simp
    show 0 * win0_0.size a + (y a).val = (y a).val
    rw [Nat.zero_mul, Nat.zero_add])
theorem before1 (c : Dev nD) (t : Fin cfg0.N) (d) : (dat V c).before 1 t d = (ins V).wq c :=
  ((dat V c).before_fetched 1 t (fetch0_1 t) d).trans (by
    funext y
    show V c main_arg1 (((cfg0.win 1).blk t).view.emb y) = V c main_arg1 y
    congr 1; funext a; apply Fin.ext
    blk_simp
    show 0 * win0_1.size a + (y a).val = (y a).val
    rw [Nat.zero_mul, Nat.zero_add])
theorem before2 (c : Dev nD) (t : Fin cfg0.N) (d) : (dat V c).before 2 t d = (ins V).k c :=
  ((dat V c).before_fetched 2 t (fetch0_2 t) d).trans (by
    funext y
    show V c main_v15 (((cfg0.win 2).blk t).view.emb y) = V c main_v15 y
    congr 1; funext a; apply Fin.ext
    blk_simp
    show 0 * win0_2.size a + (y a).val = (y a).val
    rw [Nat.zero_mul, Nat.zero_add])
theorem before3 (c : Dev nD) (t : Fin cfg0.N) (d) : (dat V c).before 3 t d = (ins V).v c :=
  ((dat V c).before_fetched 3 t (fetch0_3 t) d).trans (by
    funext y
    show V c main_v24 (((cfg0.win 3).blk t).view.emb y) = V c main_v24 y
    congr 1; funext a; apply Fin.ext
    blk_simp
    show 0 * win0_3.size a + (y a).val = (y a).val
    rw [Nat.zero_mul, Nat.zero_add])
theorem before4 (c : Dev nD) (t : Fin cfg0.N) (d) : (dat V c).before 4 t d = (ins V).wo c :=
  ((dat V c).before_fetched 4 t (fetch0_4 t) d).trans (by
    funext y
    show V c main_v6 (((cfg0.win 4).blk t).view.emb y) = V c main_v6 y
    congr 1; funext a; apply Fin.ext
    blk_simp
    show 0 * win0_4.size a + (y a).val = (y a).val
    rw [Nat.zero_mul, Nat.zero_add])

theorem arr_last (c : Dev nD) : (dat V c).arrAt 5 cfg0.N = res (ins V) c := by
  refine (dat V c).arrAt_eq_of_after_last 5 t0_0 (by decide +kernel) _ fun j => ?_
  rfl

theorem owesAt_intro (c : Dev nD) (t : Fin (cfg0.N + 1)) (O : CellTallies nD τ sig Unit) (h0 : (dat V c).owed t = O) :
    owesE c O ⊢ ((dat V c).owesAt () t : sProp 𝕄) := by
  unfold Pipeline.Dat.owesAt Pipeline.owesWithin Pipeline.Dat.bound owesE
  rw [h0]
  iintro ⟨%W, HO⟩
  iexists W
  isplitr
  · ipureintro; exact fun _ _ => Or.inl trivial
  iexact HO
theorem owesAt_elim (c : Dev nD) (t : Fin (cfg0.N + 1)) (O : CellTallies nD τ sig Unit) (h0 : (dat V c).owed t = O) :
    ((dat V c).owesAt () t : sProp 𝕄) ⊢ owesE c O := by
  unfold Pipeline.Dat.owesAt Pipeline.owesWithin owesE
  rw [h0]
  iintro ⟨%W, -, HO⟩
  iexists W
  iexact HO

/-! ## The body's obligation -/

theorem phi_first (c : Dev nD) : (dat V c).Φ (Fin.castSucc (n := cfg0.N) t0_0) = iprop(Xk V c ∗ slots c ∗ ∃ r, prngReg c r) := by
  show phi V c 0 = _; exact if_pos rfl
theorem phi_last (c : Dev nD) : (dat V c).Φ (Fin.succ (n := cfg0.N) t0_0) = iprop(Yk c ∗ zeros c ∗ slots c ∗ ∃ r, prngReg c r) := by
  show phi V c 1 = _; exact if_neg (by decide)
theorem owed_first (c : Dev nD) : (dat V c).owed (Fin.castSucc (n := cfg0.N) t0_0) = O₀ c := by
  show owd c 0 = _; exact if_pos rfl
theorem owed_after (c : Dev nD) : (dat V c).owed (Fin.succ (n := cfg0.N) t0_0) = 0 := by
  show owd c 1 = _; exact if_neg (by decide)

set_option maxHeartbeats 1600000 in
theorem body (c : Dev nD) : Pipeline.BodyObligation (dat V c) defs₀ 𝒱₀ () Set.univ := fun t => by
  obtain rfl := fin_N0 t
  rw [bigSep_W0, bigSep_W0]
  refine (show iprop((dat V c).Φ (Fin.castSucc (n := cfg0.N) t0_0) ∗ (dat V c).owesAt () (Fin.castSucc (n := cfg0.N) t0_0)
      ∗ (∃ d, owns (c : Thread nD τ) xM fullShare ((dat V c).before 0 t0_0 d))
      ∗ (∃ d, owns (c : Thread nD τ) m1 fullShare ((dat V c).before 1 t0_0 d))
      ∗ (∃ d, owns (c : Thread nD τ) m2 fullShare ((dat V c).before 2 t0_0 d))
      ∗ (∃ d, owns (c : Thread nD τ) m3 fullShare ((dat V c).before 3 t0_0 d))
      ∗ (∃ d, owns (c : Thread nD τ) m4 fullShare ((dat V c).before 4 t0_0 d))
      ∗ (∃ d, owns (c : Thread nD τ) m5 fullShare ((dat V c).before 5 t0_0 d)))
    ⊢ run c (app (cc0_body (F := F))) fun _ => iprop((dat V c).Φ (Fin.succ (n := cfg0.N) t0_0) ∗ (dat V c).owesAt () (Fin.succ (n := cfg0.N) t0_0)
      ∗ owns (c : Thread nD τ) xM fullShare ((ins V).x c) ∗ owns (c : Thread nD τ) m1 fullShare ((ins V).wq c)
      ∗ owns (c : Thread nD τ) m2 fullShare ((ins V).k c) ∗ owns (c : Thread nD τ) m3 fullShare ((ins V).v c)
      ∗ owns (c : Thread nD τ) m4 fullShare ((ins V).wo c) ∗ owns (c : Thread nD τ) m5 fullShare (res (ins V) c)) from ?_)
  rw [phi_first, phi_last]
  unfold Xk
  iintro ⟨⟨⟨%κ, Hg⟩, Hs, Hp⟩, HO, ⟨%d0, W0⟩, ⟨%d1, W1⟩, ⟨%d2, W2⟩, ⟨%d3, W3⟩, ⟨%d4, W4⟩, ⟨%d5, W5⟩⟩
  ihave W0 := (Entails.of_eq (congrArg (owns (c : Thread nD τ) xM fullShare) (before0 V c t0_0 d0))) $$ W0
  ihave W1 := (Entails.of_eq (congrArg (owns (c : Thread nD τ) m1 fullShare) (before1 V c t0_0 d1))) $$ W1
  ihave W2 := (Entails.of_eq (congrArg (owns (c : Thread nD τ) m2 fullShare) (before2 V c t0_0 d2))) $$ W2
  ihave W3 := (Entails.of_eq (congrArg (owns (c : Thread nD τ) m3 fullShare) (before3 V c t0_0 d3))) $$ W3
  ihave W4 := (Entails.of_eq (congrArg (owns (c : Thread nD τ) m4 fullShare) (before4 V c t0_0 d4))) $$ W4
  iapply (body_run (ins V) κ c _)
  isplitl [Hg]; · iexact Hg
  isplitl [HO]; · iapply (owesAt_elim V c _ _ (owed_first V c)) $$ HO
  isplitl [Hs]; · iexact Hs
  isplitl [W0]; · iexact W0
  isplitl [W1 W2 W3 W4]
  · unfold inp
    isplitl [W1]; · iexact W1
    isplitl [W2]; · iexact W2
    isplitl [W3]; · iexact W3
    iexact W4
  isplitl [W5]; · iexists _; iexact W5
  unfold done inp Yk
  iintro ⟨HO, Hb, Hz, Hs, W0, ⟨W1, W2, W3, W4⟩, W5⟩
  isplitl [Hb Hz Hs Hp]
  · isplitl [Hb]; · iexact Hb
    isplitl [Hz]; · iexact Hz
    isplitl [Hs]; · iexact Hs
    iexact Hp
  isplitl [HO]; · iapply (owesAt_intro V c _ _ (owed_after V c)) $$ HO
  isplitl [W0]; · iexact W0
  isplitl [W1]; · iexact W1
  isplitl [W2]; · iexact W2
  isplitl [W3]; · iexact W3
  isplitl [W4]; · iexact W4
  iexact W5

/-! ## The region's record -/

/-- The rights to open the twelve transfer cells. -/
def rights (c : Dev nD) : sProp 𝕄 :=
  iprop(openTok ER (cell c 0) ∗ openTok ER (cell c 1) ∗ openTok ER (cell c 2) ∗ openTok ER (cell c 3) ∗ openTok ER (cell c 4) ∗ openTok ER (cell c 5) ∗ openTok ER (cell c 6) ∗ openTok ER (cell c 7) ∗ openTok ER (cell c 8) ∗ openTok ER (cell c 9) ∗ openTok ER (cell c 10) ∗ openTok ER (cell c 11))

/-- What the launch kept for device `c`'s region. -/
def kept (c : Dev nD) : sProp 𝕄 :=
  iprop((dutyTok ER (barCell (prv c)) 0 true ∗ dutyTok ER (barCell (nxt c)) 0 false ∗ atPos ER (barCell c) 0 ∅ 0
      ∗ cred (tallyAt (barCell c) () 2))
    ∗ (tokO c 0 ∗ tokO c 1 ∗ tokO c 2 ∗ tokN c 3 ∗ tokN c 4 ∗ tokN c 5 ∗ tokO c 6 ∗ tokO c 7 ∗ tokO c 8 ∗ tokN c 9 ∗ tokN c 10 ∗ tokN c 11)
    ∗ (crd c 3 ∗ crd c 4 ∗ crd c 5 ∗ crd c 9 ∗ crd c 10 ∗ crd c 11)
    ∗ rights c)
def Tk (c : Dev nD) : sProp 𝕄 := iprop(∃ κ, records (ins V) κ ∗ kept c)

theorem rec_inv (κ : GSem nD τ sig → ℕ) {g : GSem nD τ sig} (hg : g ∈ (barCells ∪ scCells : Finset (GSem nD τ sig))) :
    (records (ins V) κ : sProp 𝕄) ⊢ cellInv ER (Rd (ins V)) (κ g) g := by
  have h : (bigSep (barCells ∪ scCells) fun g => (cellInv ER (Rd (ins V)) (κ g) g : sProp 𝕄)) ⊢ cellInv ER (Rd (ins V)) (κ g) g := bigSep_elim hg
  unfold records
  iintro ⟨H, -⟩
  iapply h; iexact H

theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ

theorem sems_eq (c : Dev nD) : (Pipeline.ownSems0 osem c : sProp 𝕄) = zeros c := by
  unfold Pipeline.ownSems0 zeros
  exact bigSep_fin12 _

/-- The transfer cells opened. -/
theorem hopen (c : Dev nD) : iprop(Tk V c ∗ Pipeline.ownSems0 osem c ∗ levAts L lv) ⊢ (|={Set.univ}=> Xk V c : sProp 𝕄) := by
  rw [sems_eq]
  unfold Tk kept rights zeros
  iintro ⟨⟨%κ, #HR, Hbar, Ht, Hc, ⟨P0, P1, P2, P3, P4, P5, P6, P7, P8, P9, P10, P11⟩⟩, ⟨Z0, Z1, Z2, Z3, Z4, Z5, Z6, Z7, Z8, Z9, Z10, Z11⟩, #Hlev⟩
  imod (Rounds.cell_open ER (Rd (ins V)) (g := cell c 0) (Set.mem_univ (κ (cell c 0)))) $$ [P0 Z0] with ⟨A0, #N0⟩
  · isplitr; · iapply (rec_inv V κ (mem_cell c 0)); iexact HR
    isplitl [P0] <;> iassumption
  imod (Rounds.cell_open ER (Rd (ins V)) (g := cell c 1) (Set.mem_univ (κ (cell c 1)))) $$ [P1 Z1] with ⟨A1, #N1⟩
  · isplitr; · iapply (rec_inv V κ (mem_cell c 1)); iexact HR
    isplitl [P1] <;> iassumption
  imod (Rounds.cell_open ER (Rd (ins V)) (g := cell c 2) (Set.mem_univ (κ (cell c 2)))) $$ [P2 Z2] with ⟨A2, #N2⟩
  · isplitr; · iapply (rec_inv V κ (mem_cell c 2)); iexact HR
    isplitl [P2] <;> iassumption
  imod (Rounds.cell_open ER (Rd (ins V)) (g := cell c 3) (Set.mem_univ (κ (cell c 3)))) $$ [P3 Z3] with ⟨A3, #N3⟩
  · isplitr; · iapply (rec_inv V κ (mem_cell c 3)); iexact HR
    isplitl [P3] <;> iassumption
  imod (Rounds.cell_open ER (Rd (ins V)) (g := cell c 4) (Set.mem_univ (κ (cell c 4)))) $$ [P4 Z4] with ⟨A4, #N4⟩
  · isplitr; · iapply (rec_inv V κ (mem_cell c 4)); iexact HR
    isplitl [P4] <;> iassumption
  imod (Rounds.cell_open ER (Rd (ins V)) (g := cell c 5) (Set.mem_univ (κ (cell c 5)))) $$ [P5 Z5] with ⟨A5, #N5⟩
  · isplitr; · iapply (rec_inv V κ (mem_cell c 5)); iexact HR
    isplitl [P5] <;> iassumption
  imod (Rounds.cell_open ER (Rd (ins V)) (g := cell c 6) (Set.mem_univ (κ (cell c 6)))) $$ [P6 Z6] with ⟨A6, #N6⟩
  · isplitr; · iapply (rec_inv V κ (mem_cell c 6)); iexact HR
    isplitl [P6] <;> iassumption
  imod (Rounds.cell_open ER (Rd (ins V)) (g := cell c 7) (Set.mem_univ (κ (cell c 7)))) $$ [P7 Z7] with ⟨A7, #N7⟩
  · isplitr; · iapply (rec_inv V κ (mem_cell c 7)); iexact HR
    isplitl [P7] <;> iassumption
  imod (Rounds.cell_open ER (Rd (ins V)) (g := cell c 8) (Set.mem_univ (κ (cell c 8)))) $$ [P8 Z8] with ⟨A8, #N8⟩
  · isplitr; · iapply (rec_inv V κ (mem_cell c 8)); iexact HR
    isplitl [P8] <;> iassumption
  imod (Rounds.cell_open ER (Rd (ins V)) (g := cell c 9) (Set.mem_univ (κ (cell c 9)))) $$ [P9 Z9] with ⟨A9, #N9⟩
  · isplitr; · iapply (rec_inv V κ (mem_cell c 9)); iexact HR
    isplitl [P9] <;> iassumption
  imod (Rounds.cell_open ER (Rd (ins V)) (g := cell c 10) (Set.mem_univ (κ (cell c 10)))) $$ [P10 Z10] with ⟨A10, #N10⟩
  · isplitr; · iapply (rec_inv V κ (mem_cell c 10)); iexact HR
    isplitl [P10] <;> iassumption
  imod (Rounds.cell_open ER (Rd (ins V)) (g := cell c 11) (Set.mem_univ (κ (cell c 11)))) $$ [P11 Z11] with ⟨A11, #N11⟩
  · isplitr; · iapply (rec_inv V κ (mem_cell c 11)); iexact HR
    isplitl [P11] <;> iassumption
  imodintro
  unfold Xk ghost
  iexists κ
  isplitr
  · unfold env
    isplitr; · iexact HR
    isplitr; · iexact Hlev
    rw [bigSep_fin12]
    isplitr; · iexact N0
    isplitr; · iexact N1
    isplitr; · iexact N2
    isplitr; · iexact N3
    isplitr; · iexact N4
    isplitr; · iexact N5
    isplitr; · iexact N6
    isplitr; · iexact N7
    isplitr; · iexact N8
    isplitr; · iexact N9
    isplitr; · iexact N10
    iexact N11
  isplitl [Hbar]; · iexact Hbar
  isplitl [Ht]; · iexact Ht
  isplitl [Hc]; · iexact Hc
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact A11

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin (cfg0.N + 1)) (g : GSem nD τ sig) (i : Unit) (h : 0 < (dat V c).owed t g i) :
    i ∈ L g ∧ (0 : ℕ) < lv g i := by
  have e : (dat V c).owed t = if t.val = 0 then O₀ c else 0 := rfl
  rw [e] at h
  split at h
  · obtain ⟨h1, h2⟩ := above_O₀ c g i h
    exact ⟨by rw [show L g = {()} from if_pos h1]; exact Finset.mem_singleton_self _, h2⟩
  · exact absurd h (Nat.lt_irrefl 0)

theorem hin (c : Dev nD) : iprop(Pipeline.scopedRest (Pipeline.pin (pcfgs (F := F)) adm 0).spec c ∗ (∃ r, prngReg c r)
      ∗ StableHlo.held (c.tc : Thread nD τ) ∅ (V c) ∗ Xk V c)
    ⊢ (pdats V 0 c).Φ 0 := by
  rw [show (pdats V 0 c).Φ 0 = iprop(Xk V c ∗ slots c ∗ ∃ r, prngReg c r) from phi_first V c]
  iintro ⟨Hs, Hp, -, HX⟩
  isplitl [HX]; · iexact HX
  isplitl [Hs]; · iapply (rest_slots c).1 $$ Hs
  iexact Hp

theorem phi_end (c : Dev nD) : (pdats V 0 c).Φ (Fin.last (Pipeline.pin (pcfgs (F := F)) adm 0).N) = iprop(Yk c ∗ zeros c ∗ slots c ∗ ∃ r, prngReg c r) := by
  show phi V c (Fin.last cfg0.N).val = _
  rw [Fin.val_last, show cfg0.N = 1 from N_0]; exact if_neg (by decide)

theorem hout (c : Dev nD) : (pdats V 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (aft V c)
      ∗ Pipeline.ownSems0 osem c ∗ Yk c) := by
  rw [phi_end, sems_eq, show (StableHlo.held (c.tc : Thread nD τ) ∅ (aft V c) : sProp 𝕄) = BI.emp from BI.bigSep_empty]
  iintro ⟨HY, Hz, Hs, Hp⟩
  isplitl [Hs]; · iapply (rest_slots c).2 $$ Hs
  isplitl [Hp]; · iexact Hp
  isplitr; · iempintro
  isplitl [Hz]; · iexact Hz
  iexact HY

theorem in_of_ne : ∀ w : Fin 6, w ≠ 5 → (win0 w).isOut = false := by decide
theorem arr_same (c : Dev nD) (w : Fin 6) (hw : w ≠ 5) : (dat V c).arrAt w cfg0.N = V c (Pipeline.arrRef spec0 w) := by
  exact (dat V c).arrAt_in w (in_of_ne w hw) cfg0.N

theorem aft_arr (c : Dev nD) (w : Fin 6) : (dat V c).arrAt w cfg0.N = aft V c (Pipeline.arrRef spec0 w) := by
  by_cases hw : w = 5
  · subst hw
    rw [arr_last]
    exact (Function.update_self (Proc.devRef .tc main_v25) _ (V c)).symm
  · rw [arr_same V c w hw]
    unfold aft
    rw [Function.update_of_ne]
    revert w; decide

/-- The window arrays' references, and the other unscoped ones. -/
abbrev arrs : Finset (DevRef τ sig) := Pipeline.arrRefs (τ := τ) spec0
abbrev others : Finset (DevRef τ sig) := Pipeline.ucRefs τ sig \ arrs

theorem share_full (c : Dev nD) (w : Fin 6) : (dat V c).share w = fullShare := by
  unfold Pipeline.Dat.share; split <;> rfl

theorem stage_low0 : ∀ (w : Fin 6) (s : Fin (win0 w).nbuf), lvOf (SemLoc.dma ((win0 w).sem s)) ≤ 0 := by decide
theorem stage_low (c : Dev nD) (w : Fin 6) (s : Fin (win0 w).nbuf) : lv ((c : Thread nD τ), SemLoc.dma ((win0 w).sem s)) () ≤ 0 := stage_low0 w s

set_option backward.isDefEq.respectTransparency.types false in
def reg : Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ others (Finset.empty_subset _) kit rfl (fun c => (body V c).loose)
    (fun _ => 0) O₀ (fun c => (owed_zero V c).trans (zero_add _).symm) (owed_last V) (fun _ => rfl)
    (share_full V)
    V (aft V) (fun c b hb => by
      unfold aft
      rw [Function.update_of_ne]
      rintro rfl
      exact (Finset.mem_sdiff.mp (Finset.mem_sdiff.mp hb).1).2 (by decide))
    (Tk V) Yk (Xk V) Yk (hopen V) (hin V) (hout V)
    (fun c => by iintro H; imodintro; iexact H)
    (fun _ => 0)
    ⟨fun c w s => by rw [L_tc]; exact Finset.mem_singleton_self _, fun c w s => stage_low c w s, fun c t g i h => cut V c t g i h⟩
    (fun _ => iprop(emp))
    (fun c w => rfl) (fun c w => aft_arr V c w)

end Cert.KernelIdeal.Ring
-- ==== Proof.KernelIdeal.Launch.lean ====
/-
# The launch: tokens, credits, and what each device starts with

Every cell's invariant is made before any core runs: the barrier cells with their counters, the transfer cells without, to be
opened by their owners. The tokens of a cell's duties go to the devices that pay them, the credits to the devices that wait.
-/
module

public import proofs.«01_k».proof.Proof.KernelIdeal.Region

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells' tokens -/

theorem osem_ne_bar : ∀ k : Fin 12, osem k ≠ .reg barS := by decide

theorem cells_disjoint : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- A device's fourteen duties: the two of its barrier cell, then one of each transfer cell. -/
abbrev duty (k : Fin 14) : SemLoc sig × Bool :=
  if k.val = 0 then (.reg barS, true) else if k.val = 1 then (.reg barS, false) else (.dma (ds ⟨k.val - 2, by have := k.isLt; omega⟩), false)
theorem duty_inj : Function.Injective duty := by
  intro a b h
  revert a b
  decide

abbrev tokEmb : Dev nD × Fin 14 ↪ GSem nD τ sig × ℕ × Bool :=
  ⟨fun p => (((p.1 : Thread nD τ), (duty p.2).1), 0, (duty p.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩
/-- Every duty's token. -/
def toks : Finset (GSem nD τ sig × ℕ × Bool) := Finset.univ.map tokEmb

theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), 1, 2, 3, 4, 5, 6, 7, 8, 9, 10, 11, 12, 13] (by decide) (by decide) Φ

/-- The tokens, device by device. -/
theorem toks_split : bigSep toks (fun x => (dutyTok ER x.1 x.2.1 x.2.2 : sProp 𝕄)) = bigSep Finset.univ fun c : Dev nD =>
    iprop(dutyTok ER (barCell c) 0 true ∗ dutyTok ER (barCell c) 0 false ∗ tokO c 0 ∗ tokO c 1 ∗ tokO c 2 ∗ tokO c 3 ∗ tokO c 4 ∗ tokO c 5
      ∗ tokO c 6 ∗ tokO c 7 ∗ tokO c 8 ∗ tokO c 9 ∗ tokO c 10 ∗ tokO c 11) := by
  unfold toks
  rw [bigSep_map, bigSep_univ_prod]
  exact bigSep_congr fun c _ => by rw [bigSep_fin14]; rfl

/-- What the device that pays holds. -/
def payer (c : Dev nD) : sProp 𝕄 :=
  iprop((dutyTok ER (barCell (prv c)) 0 true ∗ dutyTok ER (barCell (nxt c)) 0 false)
    ∗ (tokO c 0 ∗ tokO c 1 ∗ tokO c 2 ∗ tokN c 3 ∗ tokN c 4 ∗ tokN c 5 ∗ tokO c 6 ∗ tokO c 7 ∗ tokO c 8 ∗ tokN c 9 ∗ tokN c 10 ∗ tokN c 11))

/-- Tokens of the receiving cells and of the barriers go to the neighbours. -/
theorem toks_pass : bigSep toks (fun x => (dutyTok ER x.1 x.2.1 x.2.2 : sProp 𝕄)) ⊢ bigSep Finset.univ fun c : Dev nD => payer c := by
  rw [toks_split]
  unfold payer
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (tokO c 3 : sProp 𝕄)),
    bigSep_univ_equiv ring (fun c : Dev nD => (tokO c 4 : sProp 𝕄)),
    bigSep_univ_equiv ring (fun c : Dev nD => (tokO c 5 : sProp 𝕄)),
    bigSep_univ_equiv ring (fun c : Dev nD => (tokO c 9 : sProp 𝕄)),
    bigSep_univ_equiv ring (fun c : Dev nD => (tokO c 10 : sProp 𝕄)),
    bigSep_univ_equiv ring (fun c : Dev nD => (tokO c 11 : sProp 𝕄))]
  iintro ⟨Ht, Hf, H⟩
  isplitl [Ht Hf]
  · isplitl [Ht]; · iexact Ht
    iexact Hf
  iexact H

/-- Two families over the devices as one of pairs, and back. -/
theorem both_intro (P Q : Dev nD → sProp 𝕄) : iprop(bigSep Finset.univ P ∗ bigSep Finset.univ Q) ⊢ bigSep Finset.univ fun c => iprop(P c ∗ Q c) :=
  Entails.of_eq (bigSep_sep _ _ _).symm
theorem both_elim (P Q : Dev nD → sProp 𝕄) : (bigSep Finset.univ fun c => iprop(P c ∗ Q c)) ⊢ iprop(bigSep Finset.univ P ∗ bigSep Finset.univ Q) :=
  Entails.of_eq (bigSep_sep _ _ _)

/-! ## The credits -/

theorem bar_eq (c d : Dev nD) : barCell c = barCell d ↔ c = d :=
  ⟨fun h => congrArg (fun g : GSem nD τ sig => g.1.1) h, fun h => h ▸ rfl⟩
theorem cell_eq (c d : Dev nD) (j k : Fin 12) : cell c j = cell d k ↔ c = d ∧ j = k :=
  ⟨fun h => ⟨congrArg (fun g : GSem nD τ sig => g.1.1) h, osem_inj (congrArg Prod.snd h)⟩, fun h => h.1 ▸ h.2 ▸ rfl⟩
theorem bar_ne (c d : Dev nD) (k : Fin 12) : barCell c ≠ cell d k := fun h => osem_ne_bar k (congrArg Prod.snd h).symm
theorem cell_ne (c d : Dev nD) (k : Fin 12) : cell c k ≠ barCell d := fun h => osem_ne_bar k (congrArg Prod.snd h)

theorem tally_cell (c d : Dev nD) (j k : Fin 12) (n : ℕ) : (tallyAt (cell d k) () n : CellTallies nD τ sig Unit) (cell c j) () = if c = d ∧ j = k then n else 0 := by
  rw [tallyAt_apply]
  exact if_congr ((and_iff_left rfl).trans (cell_eq c d j k)) rfl rfl
theorem tally_bar (c d : Dev nD) (n : ℕ) : (tallyAt (barCell d) () n : CellTallies nD τ sig Unit) (barCell c) () = if c = d then n else 0 := by
  rw [tallyAt_apply]
  exact if_congr ((and_iff_left rfl).trans (bar_eq c d)) rfl rfl
theorem tally_cell_bar (c d : Dev nD) (k : Fin 12) (n : ℕ) : (tallyAt (barCell d) () n : CellTallies nD τ sig Unit) (cell c k) () = 0 := by
  rw [tallyAt_ne_cell (cell_ne c d k)]; rfl
theorem tally_bar_cell (c d : Dev nD) (k : Fin 12) (n : ℕ) : (tallyAt (cell d k) () n : CellTallies nD τ sig Unit) (barCell c) () = 0 := by
  rw [tallyAt_ne_cell (bar_ne c d k)]; rfl

/-- The receiving cells. -/
abbrev isRecv (k : Fin 12) : Prop := k = 3 ∨ k = 4 ∨ k = 5 ∨ k = 9 ∨ k = 10 ∨ k = 11

theorem owed_cell (d c : Dev nD) : ∀ k : Fin 12, isRecv k → O₀ d (cell c k) () = if c = nxt d then N else 0 := by
  rintro k (rfl | rfl | rfl | rfl | rfl | rfl) <;>
    · unfold O₀ due7 due6 due5 due4 due3 due2 due1
      simp only [Pi.add_apply, Finsupp.add_apply, tally_cell, tally_cell_bar, Pi.zero_apply, Finsupp.zero_apply, Nat.add_zero, Nat.zero_add]
      simp [show ¬ ((3 : Fin 12) = 4) by decide]
theorem owed_bar (d c : Dev nD) : O₀ d (barCell c) () = (if c = nxt d then 1 else 0) + if c = prv d then 1 else 0 := by
  unfold O₀ due7 due6 due5 due4 due3 due2 due1
  simp only [Pi.add_apply, Finsupp.add_apply, tally_bar, tally_bar_cell, Pi.zero_apply, Finsupp.zero_apply, Nat.add_zero, Nat.zero_add]

theorem sum_nxt (n : ℕ) : ∀ c : Dev nD, (∑ d : Dev nD, if c = nxt d then n else 0) = n := by
  intro c
  rw [Finset.sum_congr rfl fun d _ => if_congr (show c = nxt d ↔ d = prv c from
    ⟨fun h => by rw [h, prv_nxt], fun h => by rw [h, nxt_prv]⟩) rfl rfl, Finset.sum_ite_eq' Finset.univ (prv c) fun _ => n, if_pos (Finset.mem_univ _)]
theorem sum_prv (n : ℕ) : ∀ c : Dev nD, (∑ d : Dev nD, if c = prv d then n else 0) = n := by
  intro c
  rw [Finset.sum_congr rfl fun d _ => if_congr (show c = prv d ↔ d = nxt c from
    ⟨fun h => by rw [h, nxt_prv], fun h => by rw [h, prv_nxt]⟩) rfl rfl, Finset.sum_ite_eq' Finset.univ (nxt c) fun _ => n, if_pos (Finset.mem_univ _)]

theorem launch_cell (c : Dev nD) (k : Fin 12) (hk : isRecv k) :
    tallyOn (cell c k) (launchCredit (Pipeline.owing O₀) 0 (cell c k)) = (tallyAt (cell c k) () N : CellTallies nD τ sig Unit) := by
  unfold tallyAt
  refine congrArg _ (Finsupp.ext fun u => ?_)
  cases u
  rw [Pipeline.launchCredit_owing, Finsupp.single_eq_same, Finset.sum_congr rfl fun d _ => owed_cell d c k hk, sum_nxt]
theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib, sum_nxt, sum_prv]

/-- The credits of one device: its two barrier units and the six transfers to it. -/
def credits (c : Dev nD) : sProp 𝕄 :=
  iprop(cred (tallyAt (barCell c) () 2) ∗ crd c 3 ∗ crd c 4 ∗ crd c 5 ∗ crd c 9 ∗ crd c 10 ∗ crd c 11)

abbrev waited : List (SemLoc sig) := [.reg barS, osem 3, osem 4, osem 5, osem 9, osem 10, osem 11]
theorem waited_nodup : waited.Nodup := by decide

theorem launch_credits (c : Dev nD) : (Pipeline.launchCred O₀ c : sProp 𝕄) ⊢ credits c := by
  unfold Pipeline.launchCred
  refine (bigSep_subset (Finset.subset_univ waited.toFinset)).trans ?_
  rw [bigSep_eq_bigSepL_of_eq waited rfl waited_nodup]
  unfold credits crd
  rw [← launch_bar c, ← launch_cell c 3 (by decide), ← launch_cell c 4 (by decide), ← launch_cell c 5 (by decide), ← launch_cell c 9 (by decide),
    ← launch_cell c 10 (by decide), ← launch_cell c 11 (by decide)]
  exact BI.Entails.refl _

end Cert.KernelIdeal.Ring
-- ==== Proof.KernelIdeal.Run.lean ====
/-
# The run: every execution ends, with the named result and every counter at zero

The segments of the program chained: the host operations, the kernel's region, the reshape of the result.
-/
module

public import proofs.«01_k».proof.Proof.KernelIdeal.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The launch element -/

abbrev launched : URounds (GSem nD τ sig) Bool := launchOf barCells scCells toks

/-- The launch element: the pipeline's part, and the protocol's. -/
def u₀ : UU :=
  (initOf (Pipeline.cells (Pipeline.pin (pcfgs (F := F)) adm) cellOf_inj) (Pipeline.launchToks (Pipeline.pin (pcfgs (F := F)) adm) cellOf_inj), launched)

/-- The protocol's part, given whole to device 0. -/
def G (c : Dev nD) : sProp 𝕄 := if c = 0 then BI.own (ER launched) else iprop(emp)
theorem bigSep_G : bigSep Finset.univ (G (F := F)) = BI.own (ER launched) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-! ## The states between the segments -/

variable (m : (ℓ : Loc nD τ sig) → Buf (Elt F) ℓ) (ρ : Dev nD → PrngReg)

/-- What the kernel leaves in its result. -/
def outs : Outs (F := F) := fun _ r c => aft (V1 m) c r

/-- What rides beside the buffers, before the kernel and after it. -/
def E (j : Fin 2) (c : Dev nD) : sProp 𝕄 :=
  if j = 0 then iprop(Tk (V1 m) c ∗ (∃ r, prngReg c r) ∗ owesE c (O₀ c)) else iprop(Yk c ∗ owesE c 0)
theorem E_zero (c : Dev nD) : E m 0 c = iprop(Tk (V1 m) c ∗ (∃ r, prngReg c r) ∗ owesE c (O₀ c)) := if_pos rfl
theorem E_one (c : Dev nD) : E m 1 c = iprop(Yk c ∗ owesE c 0) := if_neg (by decide)

section Region

variable (V : Dev nD → Valuation τ sig (Elt F))

theorem arrs_sub : arrs ⊆ Pipeline.ucRefs τ sig := by decide

theorem reg_enter (c : Dev nD) :
    iprop(StableHlo.held (c : Thread nD τ) (Pipeline.ucRefs τ sig) (V c) ∗ Tk V c ∗ (∃ r, prngReg c r) ∗ owesE c (O₀ c)) ⊢ (reg V).pre c := by
  refine (?_ : _ ⊢ (iprop(StableHlo.held (c : Thread nD τ) arrs (V c) ∗ (∃ r, prngReg c r) ∗ (StableHlo.held (c : Thread nD τ) others (V c) ∗ emp)
    ∗ Tk V c ∗ ∃ Wd, owes (c : Thread nD τ) (0 + O₀ c) Wd) : sProp 𝕄))
  rw [StableHlo.held_sub_split _ arrs_sub, zero_add]
  unfold owesE
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_leave (c : Dev nD) :
    (reg V).post c ⊢ iprop(StableHlo.held (c : Thread nD τ) (Pipeline.ucRefs τ sig) (aft V c) ∗ Yk c ∗ owesE c 0) := by
  refine (?_ : (iprop(StableHlo.held (c : Thread nD τ) arrs (aft V c) ∗ (∃ r, prngReg c r) ∗ (StableHlo.held (c : Thread nD τ) others (aft V c) ∗ emp)
    ∗ Yk c ∗ ∃ Wd, owes (c : Thread nD τ) 0 Wd) : sProp 𝕄) ⊢ _)
  rw [StableHlo.held_sub_split _ arrs_sub]
  unfold owesE
  iintro ⟨Ha, -, ⟨Ho, -⟩, HY, HO⟩
  isplitl [Ha Ho]
  · isplitl [Ha] <;> iassumption
  isplitl [HY]; · iexact HY
  iexact HO

end Region

theorem aft_outs (c : Dev nD) : aft (V1 m) c = V2 m (outs m) c := by
  show Function.update (V1 m c) main_v25 (res (ins (V1 m)) c) = Function.update (V1 m c) main_v25 (aft (V1 m) c main_v25)
  exact congrArg _ (Function.update_self (Proc.devRef .tc main_v25) (res (ins (V1 m)) c) (V1 m c)).symm

theorem enter (c : Dev nD) : iprop(StableHlo.held (c : Thread nD τ) (Pipeline.ucRefs τ sig) (V1 m c) ∗ E m 0 c) ⊢ (reg (V1 m)).pre c := by
  rw [E_zero]
  exact reg_enter (V1 m) c
theorem leave (c : Dev nD) : (reg (V1 m)).post c ⊢ iprop(StableHlo.held (c : Thread nD τ) (Pipeline.ucRefs τ sig) (V2 m (outs m) c) ∗ E m 1 c) := by
  rw [E_one, ← aft_outs m c]
  exact reg_leave (V1 m) c

/-! ## What each device starts with -/

theorem unscoped_bar : ∀ sm : SemLoc sig, sm.isScoped .tc = false → sm = .reg barS := by decide
theorem unscoped_filter : (Finset.univ.filter fun sm : SemLoc sig => ¬ sm.isScoped .tc) = {SemLoc.reg barS} := by decide
theorem unscopedSems_bar (c : Dev nD) : (unscopedSems0 c : sProp 𝕄) = semVal (barCell c) 0 := by
  unfold unscopedSems0
  rw [unscoped_filter, BI.bigSep_singleton]

abbrev start (c : Dev nD) : sProp 𝕄 := iprop(StableHlo.held (c : Thread nD τ) (Pipeline.ucRefs τ sig) (V0 m c) ∗ E m 0 c)

/-- What of a device's launch holdings is not the protocol's. -/
def plain (c : Dev nD) : sProp 𝕄 :=
  iprop(StableHlo.held (c : Thread nD τ) (Pipeline.ucRefs τ sig) (V0 m c) ∗ credits c ∗ (∃ r, prngReg c r) ∗ owesE c (O₀ c))
/-- And what is. -/
def dealt (c : Dev nD) : sProp 𝕄 := iprop(atPos ER (barCell c) 0 ∅ 0 ∗ rights c ∗ payer c)

theorem start_intro (κ : GSem nD τ sig → ℕ) (c : Dev nD) : iprop(records (ins (V1 m)) κ ∗ (dealt c ∗ plain m c)) ⊢ start m c := by
  unfold start
  rw [E_zero]
  unfold dealt plain payer credits Tk kept
  iintro ⟨#HR, ⟨Hat, Hr, ⟨Ht, Hf⟩, Htok⟩, Hh, ⟨H2, Hc⟩, Hp, HO⟩
  isplitl [Hh]; · iexact Hh
  isplitl [Hat Hr Ht Hf Htok H2 Hc]
  · iexists κ
    isplitr; · iexact HR
    isplitl [Hat Ht Hf H2]
    · isplitl [Ht]; · iexact Ht
      isplitl [Hf]; · iexact Hf
      isplitl [Hat] <;> iassumption
    isplitl [Htok]; · iexact Htok
    isplitl [Hc] <;> iassumption
  isplitl [Hp] <;> iassumption

theorem core_start (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(plain m c ∗ (semVal (barCell c) 0 ∗ G c)) : sProp 𝕄) := by
  rw [show unscopedBufs c (fun b => m ((c.tc : Thread nD τ).loc b)) = (StableHlo.held (c : Thread nD τ) (Pipeline.ucRefs τ sig) (V0 m c) : sProp 𝕄) from
    Pipeline.unscopedBufs_held c (V0 m c), unscopedSems_bar]
  unfold plain owesE
  iintro ⟨Hh, Hv, HO, Hc, Hp, HG⟩
  isplitl [Hh HO Hc Hp]
  · isplitl [Hh]; · iexact Hh
    isplitl [Hc]; · iapply (launch_credits c) $$ Hc
    isplitl [Hp]; · iexists (ρ c); iexact Hp
    iexists ∅; iexact HO
  isplitl [Hv] <;> iassumption

theorem rights_split : bigSep scCells (fun g => (openTok ER g : sProp 𝕄)) ⊢ bigSep Finset.univ fun c : Dev nD => rights c := by
  rw [bigSep_map, bigSep_univ_prod]
  refine bigSep_mono fun c _ => ?_
  rw [bigSep_fin12]
  unfold rights
  exact BI.Entails.refl _

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (start m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hall : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (bigSep Finset.univ fun c : Dev nD => iprop(plain m c ∗ (semVal (barCell c) 0 ∗ G c)) : sProp 𝕄) :=
    bigSep_mono fun c _ => core_start m ρ c
  iintro ⟨H, -⟩
  ihave H1 := hall $$ H
  ihave H2 := (both_elim _ _) $$ H1
  icases H2 with ⟨HB, H3⟩
  ihave H4 := (both_elim _ _) $$ H3
  icases H4 with ⟨Hv, HG⟩
  ihave Hu := (Entails.of_eq (bigSep_G (F := F))) $$ HG
  imod (Rounds.fund_launch ER (Rd (ins (V1 m))) cells_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := records (ins (V1 m)) κ) (Φ := fun c => iprop(dealt c ∗ plain m c)) fun c _ => start_intro m κ c)
  isplitr
  · unfold records
    isplitr; · iexact Hinv
    iexact Hr
  iapply (both_intro _ _)
  isplitr [HB]
  · unfold dealt
    iapply (both_intro _ _)
    isplitl [Hat]; · iapply hat $$ Hat
    iapply (both_intro _ _)
    isplitl [Hopen]; · iapply (rights_split (F := F)) $$ Hopen
    iapply (toks_pass (F := F)) $$ Htok
  · iexact HB

/-! ## The run -/

/-- What is claimed of one device's final memory. -/
def Ends (c : Dev nD) (s : MemSt nD τ sig (Elt F)) : Prop :=
  s.mem ((c.tc : Thread nD τ).loc main_v26) = V3 m (outs m) c main_v26
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

abbrev final (c : Dev nD) : sProp 𝕄 :=
  iprop(StableHlo.held (c : Thread nD τ) (Pipeline.ucRefs τ sig) (V3 m (outs m) c) ∗ semVal (barCell c) 0)

theorem final_read (c : Dev nD) (s' : Phys nD τ sig (Elt F)) :
    iprop(final m c ∗ SI s') ⊢ (|={Set.univ}=> iprop(⌜Ends m c s'.mem ∧ s'.mem.sem (barCell c) = 0⌝ ∗ SI s') : sProp 𝕄) := by
  unfold final StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨h (Proc.devRef .tc main_v26) (Finset.mem_filter.mpr ⟨StableHlo.devRef_mem_tcRefs main_v26, by decide⟩),
      (h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c),
      (h (Proc.devRef .tc main_arg2) (Finset.mem_filter.mpr ⟨StableHlo.devRef_mem_tcRefs main_arg2, by decide⟩)).trans (V3_main_arg2 m (outs m) c),
      (h (Proc.devRef .tc main_arg3) (Finset.mem_filter.mpr ⟨StableHlo.devRef_mem_tcRefs main_arg3, by decide⟩)).trans (V3_main_arg3 m (outs m) c),
      (h (Proc.devRef .tc main_arg4) (Finset.mem_filter.mpr ⟨StableHlo.devRef_mem_tcRefs main_arg4, by decide⟩)).trans (V3_main_arg4 m (outs m) c)⟩,
      by simpa using hb⟩
  iexact HSI

set_option backward.isDefEq.respectTransparency.types false in
/-- Every weakly fair execution ends; then the result is the named one, every argument is as at launch, and every counter is
    at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats (V1 m)) () cellOf_inj EP defs₀ 𝒱₀ L lv m ρ main
    (segs m (outs m) 𝒱₀ L lv (E m) () (pdats (V1 m)) (reg (V1 m)))
    (fun c Q => by
      rewrite [main_chain c, Pipeline.Seg.run_eq_chain,
        show (segs m (outs m) 𝒱₀ L lv (E m) () (pdats (V1 m)) (reg (V1 m)) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne G u₀
    (by
      unfold u₀
      iintro Hu
      ihave H := (ownU_pair _ _) $$ Hu
      icases H with ⟨HP, HX⟩
      imodintro
      isplitl [HP]; · iexact HP
      rw [bigSep_G]; iexact HX)
    (T₀ := start m) (Tₙ := final m)
    (hch := fun c => ⟨.rfl, enter m c, leave m c, by
      show iprop(StableHlo.held (c : Thread nD τ) (Pipeline.ucRefs τ sig) (V3 m (outs m) c) ∗ E m 1 c)
        ⊢ iprop(final m c ∗ ∃ W, owes (c : Thread nD τ) (0 : CellTallies nD τ sig Unit) W)
      rw [E_one]
      unfold final Yk owesE
      iintro ⟨Hh, Hb, HO⟩
      isplitr [HO]
      · isplitl [Hh] <;> iassumption
      · iexact HO⟩)
    (hinit := init m ρ)
    (QY := fun c s => Ends m c s ∧ s.sem (barCell c) = 0)
    (hfin := final_read m)
    (hQ := fun s h hs => ⟨fun c => (h c).1, sem_eq_zero hs fun c sm hsm => by
      obtain rfl := unscoped_bar sm hsm
      exact (h c).2⟩)

end Cert.KernelIdeal.Ring
-- ==== Proof.Value.Block.lean ====
/-
# A device's contribution to a block of rows, as one function

The four times a device works on a block of 256 rows it does the same: queries, and for each of the four
row classes attention over that class's keys and the output projection. `rowsOf` names that function in the
steps it is made of, and the four printed contributions are shown to be it.
-/
module

public import proofs.«01_k».proof.Proof.KernelIdeal.Values
public import Idealize.ShloMosaic.Lib.Pipeline.Value

@[expose] public section

noncomputable section

namespace Cert.KernelIdeal.Ring

open Cert.KernelIdeal Cert.KernelIdeal.Gen
open Idealize.ShloMosaic Idealize.ShloMosaic.TcCoe

variable {F : FTy → Type} [FloatOps F]

/-- The queries of a block of rows, by head. -/
def queries (x : FVec F S256x1024 .bf16) (wq : FVec F S1024x1024 .bf16) : FVec F S256x8x128 .bf16 :=
  shapeCast S256x8x128 (truncf .bf16 (matmul dot_S256x1024_S1024x1024_S256x1024_1_0_0_1_n_n none x
    (shapeCast S1024x1024 wq shapeCasts_S1024x1024_S1024x1024) (constant S256x1024 .f32 0x00000000#32)) bitsLt_bf16_f32) shapeCasts_S256x1024_S256x8x128

/-- The scaled products of one class's queries with its keys. -/
def scores (q : FVec F S64x8x128 .bf16) (k : FVec F S1x8x1024x128 .bf16) : FVec F S8x64x1024 .f32 :=
  mulf (matmul dot_S64x8x128_S8x1024x128_S8x64x1024_2_2_0_1_1_0 none q
      (shapeCast S8x1024x128 k shapeCasts_S1x8x1024x128_S8x1024x128) (constant S8x64x1024 .f32 0x00000000#32))
    (broadcast S8x64x1024 (Scalar.ofBits .f32 0x3DB504F3#32))

/-- A value of every row, spread over the row's keys. -/
def spread (r : FVec F S8x64 .f32) : FVec F S8x64x1024 .f32 :=
  broadcastTo S8x64x1024 (shapeCast S8x64x1 r shapeCasts_S8x64_S8x64x1) broadcasts_S8x64x1_S8x64x1024

/-- Exponentials of the scores less their row's greatest. -/
def expo (s : FVec F S8x64x1024 .f32) : FVec F S8x64x1024 .f32 :=
  exp (subf s (spread (multiReduction .maximumf [2] S8x64 s 0xFF800000#32 reduces_S8x64x1024_S8x64 (.inl rfl) rfl)))

/-- Each over its row's sum. -/
def norm (e : FVec F S8x64x1024 .f32) : FVec F S8x64x1024 .f32 :=
  divf e (spread (multiReduction .add [2] S8x64 e 0x00000000#32 reduces_S8x64x1024_S8x64 (.inl rfl) rfl))

/-- The weighted means of one class's values. -/
def context (w : FVec F S8x64x1024 .f32) (v : FVec F S1x8x1024x128 .bf16) : FVec F S8x64x128 .bf16 :=
  truncf .bf16 (matmul dot_S8x64x1024_S8x1024x128_S8x64x128_2_1_1_2_0_0 none (truncf .bf16 w bitsLt_bf16_f32)
    (shapeCast S8x1024x128 v shapeCasts_S1x8x1024x128_S8x1024x128) (constant S8x64x128 .f32 0x00000000#32)) bitsLt_bf16_f32

/-- Their products with the output weights, summed over the heads. -/
def project (z : FVec F S8x64x128 .bf16) (wo : FVec F S8x128x1024 .bf16) : FVec F S64x1024 .f32 :=
  multiReduction .add [0] S64x1024 (matmul dot_S8x64x128_S8x128x1024_S8x64x1024_2_1_1_2_0_0 none z
    (shapeCast S8x128x1024 wo shapeCasts_S8x128x1024_S8x128x1024) (constant S8x64x1024 .f32 0x00000000#32)) 0x00000000#32 reduces_S8x64x1024_S64x1024 (.inl rfl) rfl

/-- One class of rows of a block: 64 rows' contribution. -/
def classRows (q : FVec F S64x8x128 .bf16) (k v : FVec F S1x8x1024x128 .bf16) (wo : FVec F S8x128x1024 .bf16) : FVec F S64x1024 .f32 :=
  project (context (norm (expo (scores q k))) v) wo

/-- The four classes' contributions, one below the other. -/
def rowsOf (wq : FVec F S1024x1024 .bf16) (k v : FVec F S4x8x1024x128 .bf16) (wo : FVec F S8x128x1024 .bf16)
    (x : FVec F S256x1024 .bf16) : FVec F S256x1024 .f32 :=
  concatenate S256x1024 0
    [⟨S64x1024, classRows (extractStridedSlice S64x8x128 ![0, 0, 0] (queries x wq) slices_S256x8x128_o0_0_0_S64x8x128) (cls0 k) (cls0 v) wo⟩,
     ⟨S64x1024, classRows (extractStridedSlice S64x8x128 ![64, 0, 0] (queries x wq) slices_S256x8x128_o64_0_0_S64x8x128) (cls1 k) (cls1 v) wo⟩,
     ⟨S64x1024, classRows (extractStridedSlice S64x8x128 ![128, 0, 0] (queries x wq) slices_S256x8x128_o128_0_0_S64x8x128) (cls2 k) (cls2 v) wo⟩,
     ⟨S64x1024, classRows (extractStridedSlice S64x8x128 ![192, 0, 0] (queries x wq) slices_S256x8x128_o192_0_0_S64x8x128) (cls3 k) (cls3 v) wo⟩]
    concatenates_S64x1024_S64x1024_S64x1024_S64x1024_S256x1024_d0

variable (wq : FVec F S1024x1024 .bf16) (k v : FVec F S4x8x1024x128 .bf16) (wo : FVec F S8x128x1024 .bf16)

/-- A slot's rows as a block. -/
abbrev down {φ : FTy} (x : FVec F S1x256x1024 φ) : FVec F S256x1024 φ := shapeCast S256x1024 x shapeCasts_S1x256x1024_S256x1024

/-- A device's contribution to its own rows. -/
theorem own_eq (x : FVec F S256x1024 .bf16) : own wq k v wo x = rowsOf wq k v wo x := by
  have h : shapeCast S256x1024 x shapeCasts_S256x1024_S256x1024 = x := shapeCast_self x _
  calc own wq k v wo x = rowsOf wq k v wo (shapeCast S256x1024 x shapeCasts_S256x1024_S256x1024) := rfl
    _ = _ := by rw [h]

/-- The first partial sum it sends. -/
theorem part0_eq (x : FVec F S1x256x1024 .bf16) :
    part0 wq k v wo x = up (truncf .bf16 (rowsOf wq k v wo (down x)) bitsLt_bf16_f32) := rfl

/-- Its contribution to the rows of the second step. -/
theorem mid_eq (x : FVec F S1x256x1024 .bf16) : mid wq k v wo x = rowsOf wq k v wo (down x) := rfl

/-- Its contribution to the rows of the third step. -/
theorem far_eq (x : FVec F S1x256x1024 .bf16) : far wq k v wo x = rowsOf wq k v wo (down x) := rfl

end Cert.KernelIdeal.Ring

end
-- ==== Proof.Value.Softmax.lean ====
/-
# A masked softmax is the softmax of the kept entries

Over the extended reals: an entry of minus infinity adds nothing to a row's greatest entry, its exponential is
zero, and with its weight set to zero the row's weighted sum is that over the kept entries alone. No entry has
to be finite.
-/
module

public import Idealize.ShloMosaic.PureOps.Ideal

@[expose] public section

noncomputable section

namespace Cert.Attention

open Idealize.ShloMosaic
open scoped BigOperators

variable {ι κ : Type} [Fintype ι] [Fintype κ]

/-- The greatest of a row's entries. -/
def top (s : ι → EReal) : EReal := Finset.univ.fold max ⊥ s

/-- An entry's exponential, its row's greatest taken off. -/
def ex (s : ι → EReal) (t : ι) : EReal := Ideal.exp (s t - top s)

/-- An entry's share of its row. -/
def weight (s : ι → EReal) (t : ι) : EReal := Ideal.div (ex s t) (∑ u, ex s u)

/-- The mean of the values by a row's weights. -/
def mean (s v : ι → EReal) : EReal := ∑ t, weight s t * v t

/-- Entries of minus infinity don't change the greatest. -/
theorem top_kept (e : ι → κ) (s : κ → EReal) (h : ∀ k, k ∉ Set.range e → s k = ⊥) : top s = top (s ∘ e) := by
  apply le_antisymm
  · refine (Finset.fold_max_le _).2 ⟨bot_le, fun k _ => ?_⟩
    by_cases hk : k ∈ Set.range e
    · obtain ⟨t, rfl⟩ := hk
      exact (Finset.le_fold_max _).2 (.inr ⟨t, Finset.mem_univ _, le_rfl⟩)
    · rw [h k hk]; exact bot_le
  · exact (Finset.fold_max_le _).2 ⟨bot_le, fun t _ => (Finset.le_fold_max _).2 (.inr ⟨e t, Finset.mem_univ _, le_rfl⟩)⟩

/-- The exponential of minus infinity is zero, whatever the greatest entry. -/
theorem ex_bot (s : κ → EReal) (k : κ) (h : s k = ⊥) : ex s k = 0 := by
  rw [ex, h, EReal.bot_sub]; rfl

/-- The kept entries' exponentials are those of the row they form. -/
theorem ex_kept (e : ι → κ) (s : κ → EReal) (h : ∀ k, k ∉ Set.range e → s k = ⊥) (t : ι) : ex s (e t) = ex (s ∘ e) t := by
  rw [ex, ex, top_kept e s h]; rfl

/-- The row's weighted sum, its weights zero off the kept entries, is the mean over the kept entries. -/
theorem mean_kept (e : ι → κ) (he : Function.Injective e) (s v w : κ → EReal) (h : ∀ k, k ∉ Set.range e → s k = ⊥)
    (hw : ∀ k, k ∈ Set.range e → w k = weight s k) (hw' : ∀ k, k ∉ Set.range e → w k = 0) :
    ∑ k, w k * v k = mean (s ∘ e) (v ∘ e) := by
  have hs : ∑ k, ex s k = ∑ t, ex (s ∘ e) t := by
    refine (Fintype.sum_of_injective e he _ _ (fun k hk => ex_bot s k (h k hk)) fun t => ?_).symm
    exact (ex_kept e s h t).symm
  refine (Fintype.sum_of_injective e he _ _ (fun k hk => by rw [hw' k hk, zero_mul]) fun t => ?_).symm
  show weight (s ∘ e) t * v (e t) = w (e t) * v (e t)
  rw [hw _ ⟨t, rfl⟩, weight, weight, hs, ex_kept e s h]

end Cert.Attention

end
-- ==== Proof.Value.AtIndex.lean ====
/-
# A contribution, read at an index over the extended reals
-/
module

public import proofs.«01_k».proof.Proof.Value.Block
public import proofs.«01_k».proof.Proof.Value.Softmax
public import Idealize.ShloMosaic.Lib.Pointwise

@[expose] public section

noncomputable section

namespace Cert.KernelIdeal.Ring

open Cert.KernelIdeal Cert.KernelIdeal.Gen
open Idealize.ShloMosaic Idealize.ShloMosaic.TcCoe
open Cert.Attention
open scoped BigOperators

/-- The word of minus infinity. -/
theorem bot_word : Ideal.ofBits .f32 0xFF800000#32 = ⊥ := by simp [Ideal.ofBits, Ideal.ieee]

/-- The scale, as the rational that its word is. -/
abbrev scale : EReal := Ideal.ofBits .f32 0x3DB504F3#32

/-- A query: the row times a column of the query weights. -/
theorem queries_at (x : FVec Ideal S256x1024 .bf16) (wq : FVec Ideal S1024x1024 .bf16) (i : Fin 256) (h : Fin 8) (d : Fin 128) :
    queries x wq (ix3 i h d) = ∑ z : Fin 1024, x (ix2 i z) * wq (ix2 z ⟨h.val * 128 + d.val, by omega⟩) := by
  pointwise [queries]

/-- A score: the scaled product, minus infinity off the mask. -/
theorem scores_at (q : FVec Ideal S64x8x128 .bf16) (k : FVec Ideal S1x8x1024x128 .bf16) (h : Fin 8) (r : Fin 64) (t : Fin 1024) :
    scores q k (ix3 h r t) = (∑ d : Fin 128, q (ix3 r h d) * k (ix4 0 h t d)) * scale := by
  pointwise [scores]

/-- An exponential, its row's greatest taken off. -/
theorem expo_at (s : FVec Ideal S8x64x1024 .f32) (h : Fin 8) (r : Fin 64) (t : Fin 1024) :
    expo s (ix3 h r t) = ex (fun u => s (ix3 h r u)) t := by
  rw [ex, top, ← bot_word]
  pointwise [expo, spread]

/-- A weight: its share of the row. -/
theorem norm_at (s : FVec Ideal S8x64x1024 .f32) (h : Fin 8) (r : Fin 64) (t : Fin 1024) :
    norm s (ix3 h r t) = Ideal.div (s (ix3 h r t)) (∑ u : Fin 1024, s (ix3 h r u)) := by
  pointwise [norm, spread]

/-- The weighted mean of the values. -/
theorem context_at (w : FVec Ideal S8x64x1024 .f32) (v : FVec Ideal S1x8x1024x128 .bf16) (h : Fin 8) (r : Fin 64) (d : Fin 128) :
    context w v (ix3 h r d) = ∑ t : Fin 1024, w (ix3 h r t) * v (ix4 0 h t d) := by
  pointwise [context]

/-- The weighted sums of the values, times the output weights. -/
theorem project_at (z : FVec Ideal S8x64x128 .bf16) (wo : FVec Ideal S8x128x1024 .bf16) (r : Fin 64) (c : Fin 1024) :
    project z wo (ix2 r c) = ∑ h : Fin 8, ∑ d : Fin 128, z (ix3 h r d) * wo (ix3 h d c) := by
  pointwise [project]

/-- One class's rows at an index: over the heads and their lanes, the mean of the values by the row's weights, times
    the output weight. -/
theorem classRows_at (q : FVec Ideal S64x8x128 .bf16) (k v : FVec Ideal S1x8x1024x128 .bf16) (wo : FVec Ideal S8x128x1024 .bf16)
    (r : Fin 64) (c : Fin 1024) :
    classRows q k v wo (ix2 r c) = ∑ h : Fin 8, ∑ d : Fin 128,
      mean (fun t : Fin 1024 => (∑ d' : Fin 128, q (ix3 r h d') * k (ix4 0 h t d')) * scale) (fun t => v (ix4 0 h t d)) * wo (ix3 h d c) := by
  rw [classRows, project_at]
  refine Finset.sum_congr rfl fun h _ => Finset.sum_congr rfl fun d _ => ?_
  rw [context_at]
  simp only [norm_at, expo_at, scores_at]
  rfl

/-- Row `r` of class `cl` of a block. -/
abbrev rowIn (cl : Fin 4) (r : Fin 64) : Fin 256 := ⟨cl.val * 64 + r.val, by omega⟩

/-- A class of the keys or the values at an index. -/
theorem cls_at (off : Fin 4 → ℕ) (inb : ∀ a, off a + S1x8x1024x128.size a ≤ S4x8x1024x128.size a) (f : FVec Ideal S4x8x1024x128 .bf16)
    (cl : Fin 4) (h : Fin 8) (t : Fin 1024) (d : Fin 128) (e : off = ![cl.val, 0, 0, 0]) :
    cls off inb f (ix4 0 h t d) = f (ix4 cl h t d) := by
  subst e
  show f _ = f _
  congr 1
  funext a
  match a with
  | ⟨0, _⟩ => exact Fin.ext (by simp)
  | ⟨1, _⟩ => exact Fin.ext (by simp)
  | ⟨2, _⟩ => exact Fin.ext (by simp)
  | ⟨3, _⟩ => exact Fin.ext (by simp)

/-- Four pieces one below the other, at a row of each. -/
theorem stack_at (A : Fin 4 → FVec Ideal S64x1024 .f32) (cl : Fin 4) (r : Fin 64) (c : Fin 1024) :
    concatenate S256x1024 0 [⟨S64x1024, A 0⟩, ⟨S64x1024, A 1⟩, ⟨S64x1024, A 2⟩, ⟨S64x1024, A 3⟩]
      concatenates_S64x1024_S64x1024_S64x1024_S64x1024_S256x1024_d0 (ix2 (rowIn cl r) c) = A cl (ix2 r c) := by
  generalize e0 : A 0 = B0
  generalize e1 : A 1 = B1
  generalize e2 : A 2 = B2
  generalize e3 : A 3 = B3
  match cl with
  | ⟨0, _⟩ => refine Eq.trans ?_ (congrFun e0.symm _); pointwise
  | ⟨1, _⟩ => refine Eq.trans ?_ (congrFun e1.symm _); pointwise
  | ⟨2, _⟩ =>
    refine Eq.trans ?_ (congrFun e2.symm _)
    pointwise
    rw [dif_neg (by omega), dif_neg (by omega), dif_pos (by omega)]
    exact congrArg (fun a => B2 (ix2 a c)) (Fin.ext (by simp only []; omega))
  | ⟨3, _⟩ =>
    refine Eq.trans ?_ (congrFun e3.symm _)
    pointwise
    rw [dif_neg (by omega), dif_neg (by omega), dif_neg (by omega)]
    exact congrArg (fun a => B3 (ix2 a c)) (Fin.ext (by simp only []; omega))

/-- The queries of a class's rows. -/
theorem slice_at (q : FVec Ideal S256x8x128 .bf16) (off : Fin 3 → ℕ) (inb) (cl : Fin 4) (e : off = ![cl.val * 64, 0, 0])
    (r : Fin 64) (h : Fin 8) (d : Fin 128) :
    extractStridedSlice S64x8x128 off q inb (ix3 r h d) = q (ix3 (rowIn cl r) h d) := by
  subst e
  unfold extractStridedSlice
  congr 1
  funext a
  match a with
  | ⟨0, _⟩ => exact Fin.ext (by simp)
  | ⟨1, _⟩ => exact Fin.ext (by simp)
  | ⟨2, _⟩ => exact Fin.ext (by simp)

/-- The four pieces a block's contribution is made of. -/
def pieces (q : FVec Ideal S256x8x128 .bf16) (k v : FVec Ideal S4x8x1024x128 .bf16) (wo : FVec Ideal S8x128x1024 .bf16) :
    Fin 4 → FVec Ideal S64x1024 .f32
  | 0 => classRows (extractStridedSlice S64x8x128 ![0, 0, 0] q slices_S256x8x128_o0_0_0_S64x8x128) (cls0 k) (cls0 v) wo
  | 1 => classRows (extractStridedSlice S64x8x128 ![64, 0, 0] q slices_S256x8x128_o64_0_0_S64x8x128) (cls1 k) (cls1 v) wo
  | 2 => classRows (extractStridedSlice S64x8x128 ![128, 0, 0] q slices_S256x8x128_o128_0_0_S64x8x128) (cls2 k) (cls2 v) wo
  | 3 => classRows (extractStridedSlice S64x8x128 ![192, 0, 0] q slices_S256x8x128_o192_0_0_S64x8x128) (cls3 k) (cls3 v) wo

/-- A piece's entry, over its own queries, keys and values. -/
theorem piece_at (q : FVec Ideal S64x8x128 .bf16) (k v : FVec Ideal S1x8x1024x128 .bf16) (wo : FVec Ideal S8x128x1024 .bf16)
    (Q : FVec Ideal S256x8x128 .bf16) (K V : FVec Ideal S4x8x1024x128 .bf16) (cl : Fin 4) (r : Fin 64) (c : Fin 1024)
    (hq : ∀ h d, q (ix3 r h d) = Q (ix3 (rowIn cl r) h d)) (hk : ∀ h t d, k (ix4 0 h t d) = K (ix4 cl h t d))
    (hv : ∀ h t d, v (ix4 0 h t d) = V (ix4 cl h t d)) :
    classRows q k v wo (ix2 r c) = ∑ h : Fin 8, ∑ d : Fin 128,
      mean (fun t : Fin 1024 => (∑ d' : Fin 128, Q (ix3 (rowIn cl r) h d') * K (ix4 cl h t d')) * scale)
        (fun t => V (ix4 cl h t d)) * wo (ix3 h d c) := by
  rw [classRows_at]
  simp only [hq, hk, hv]

/-- A block's contribution at a row of a class. -/
theorem rowsOf_at (wq : FVec Ideal S1024x1024 .bf16) (k v : FVec Ideal S4x8x1024x128 .bf16) (wo : FVec Ideal S8x128x1024 .bf16)
    (x : FVec Ideal S256x1024 .bf16) (cl : Fin 4) (r : Fin 64) (c : Fin 1024) :
    rowsOf wq k v wo x (ix2 (rowIn cl r) c) = ∑ h : Fin 8, ∑ d : Fin 128,
      mean (fun t : Fin 1024 => (∑ d' : Fin 128, queries x wq (ix3 (rowIn cl r) h d') * k (ix4 cl h t d')) * scale)
        (fun t => v (ix4 cl h t d)) * wo (ix3 h d c) := by
  unfold rowsOf
  generalize queries x wq = q
  refine (stack_at (pieces q k v wo) cl r c).trans ?_
  match cl with
  | 0 => exact piece_at _ _ _ wo q k v 0 r c (fun h d => slice_at q _ _ 0 rfl r h d) (fun h t d => cls_at _ _ k 0 h t d rfl) (fun h t d => cls_at _ _ v 0 h t d rfl)
  | 1 => exact piece_at _ _ _ wo q k v 1 r c (fun h d => slice_at q _ _ 1 rfl r h d) (fun h t d => cls_at _ _ k 1 h t d rfl) (fun h t d => cls_at _ _ v 1 h t d rfl)
  | 2 => exact piece_at _ _ _ wo q k v 2 r c (fun h d => slice_at q _ _ 2 rfl r h d) (fun h t d => cls_at _ _ k 2 h t d rfl) (fun h t d => cls_at _ _ v 2 h t d rfl)
  | 3 => exact piece_at _ _ _ wo q k v 3 r c (fun h d => slice_at q _ _ 3 rfl r h d) (fun h t d => cls_at _ _ k 3 h t d rfl) (fun h t d => cls_at _ _ v 3 h t d rfl)

end Cert.KernelIdeal.Ring

end
-- ==== Proof.Value.RingSum.lean ====
/-
# Around the ring: a device's result is the sum of the four devices' contributions to its rows

Over the extended reals the format changes are the identity and the order of the sum doesn't matter.
-/
module

public import proofs.«01_k».proof.Proof.Value.Block
public import Idealize.ShloMosaic.PureOps.Ideal

@[expose] public section

noncomputable section

namespace Cert.KernelIdeal.Ring

open Cert.KernelIdeal Cert.KernelIdeal.Gen
open Idealize.ShloMosaic Idealize.ShloMosaic.TcCoe
open scoped BigOperators

variable (I : Ins Ideal)

/-- What a device adds to a row block. -/
def share (d : Dev nD) (x : FVec Ideal S256x1024 .bf16) : FVec Ideal S256x1024 .f32 := rowsOf (I.wq d) (I.k d) (I.v d) (I.wo d) x

/-- A block put in a slot and taken out again. -/
theorem down_up (x : FVec Ideal S256x1024 .bf16) : down (up x) = x :=
  shapeCast_shapeCast x shapeCasts_S256x1024_S1x256x1024 shapeCasts_S1x256x1024_S256x1024

/-- The second step's and the third's payload over the extended reals. -/
theorem pay24_eq (a : FVec Ideal S256x1024 .f32) (b : FVec Ideal S1x256x1024 .bf16) (j) : down (k0_pay24 a b) j = a j + down b j := by
  have h : k0_pay24 a b = up (truncf .bf16 (addf a (extf .f32 (down b) bitsLt_bf16_f32)) bitsLt_bf16_f32) := rfl
  rw [h, down_up]; rfl
/-- The third step's payload. -/
theorem pay34_eq (a : FVec Ideal S256x1024 .f32) (b : FVec Ideal S1x256x1024 .bf16) (j) : down (k0_pay34 a b) j = a j + down b j := by
  have h : k0_pay34 a b = up (truncf .bf16 (addf a (extf .f32 (down b) bitsLt_bf16_f32)) bitsLt_bf16_f32) := rfl
  rw [h, down_up]; rfl
/-- The last step's payload. -/
theorem pay35_eq (a : FVec Ideal S256x1024 .f32) (b : FVec Ideal S1x256x1024 .bf16) (j) : k0_pay35 a b j = a j + down b j := rfl

/-- Four steps to the left come back. -/
theorem four_left : ∀ c : Dev nD, prv (prv (prv (prv c))) = c := by decide

/-- The first partial sum: one share. -/
theorem snd0_at (c : Dev nD) (j) : down (snd0 I c) j = share I c (I.x (prv c)) j := by
  unfold snd0 gat0
  rw [part0_eq, down_up, down_up]; rfl
/-- The second: two shares. -/
theorem snd1_at (c : Dev nD) (j) : down (snd1 I c) j = share I c (I.x (prv (prv c))) j + share I (prv c) (I.x (prv (prv c))) j := by
  unfold snd1 gat1
  rw [pay24_eq, mid_eq, down_up, snd0_at]; rfl
/-- The third: three shares. -/
theorem snd2_at (c : Dev nD) (j) : down (snd2 I c) j = share I c (I.x (prv (prv (prv c)))) j
    + (share I (prv c) (I.x (prv (prv (prv c)))) j + share I (prv (prv c)) (I.x (prv (prv (prv c)))) j) := by
  unfold snd2 gat2
  rw [pay34_eq, far_eq, down_up, snd1_at]; rfl

/-- The four devices, from any of them around the ring. -/
theorem around (f : Dev nD → EReal) (c : Dev nD) : f c + (f (prv c) + (f (prv (prv c)) + f (prv (prv (prv c))))) = ∑ d : Dev nD, f d := by
  have hs : ∑ d : Dev nD, f d = f 0 + f 1 + f 2 + f 3 := Fin.sum_univ_four f
  rw [hs]
  have h : ∀ c : Dev nD, (c = 0 ∧ prv c = 3 ∧ prv (prv c) = 2 ∧ prv (prv (prv c)) = 1)
      ∨ (c = 1 ∧ prv c = 0 ∧ prv (prv c) = 3 ∧ prv (prv (prv c)) = 2)
      ∨ (c = 2 ∧ prv c = 1 ∧ prv (prv c) = 0 ∧ prv (prv (prv c)) = 3)
      ∨ (c = 3 ∧ prv c = 2 ∧ prv (prv c) = 1 ∧ prv (prv (prv c)) = 0) := by decide
  obtain ⟨a, b, d, e⟩ | ⟨a, b, d, e⟩ | ⟨a, b, d, e⟩ | ⟨a, b, d, e⟩ := h c <;> rw [e, d, b, a] <;> ac_rfl

/-- A device's result. -/
theorem res_at (c : Dev nD) (j) : res I c j = ∑ d : Dev nD, share I d (I.x c) j := by
  unfold res
  rw [pay35_eq, own_eq, snd2_at, four_left]
  exact around (fun d => share I d (I.x c) j) c

end Cert.KernelIdeal.Ring

end
-- ==== Proof.Value.Prep.lean ====
/-
# What the kernel is launched on

The host operations before the kernel view the arguments in other shapes and cut the device's eight heads out of
the keys and the values, the keys of a class together.
-/
module

public import proofs.«01_k».proof.Proof.KernelIdeal.Run

@[expose] public section

noncomputable section

namespace Cert.KernelIdeal.Ring

open Cert.KernelIdeal Cert.KernelIdeal.Gen
open Idealize.ShloMosaic Idealize.ShloMosaic.TcCoe

variable {F : FTy → Type} [FloatOps F]

/-- Eight times the device's place on the axis. -/
def eight (c : Dev nD) : IVec S_ 32 :=
  muli (id (Host.remui (Host.divui (constantI S_ 32 (Dev.word c)) (constantI S_ 32 1#32)) (constantI S_ 32 4#32))) (constantI S_ 32 8#32)

/-- The first of the device's heads. -/
def first (c : Dev nD) : IVec S_ 32 :=
  select (cmpi .slt (eight c) (constantI S_ 32 0#32)) (addi (eight c) (constantI S_ 32 32#32)) (eight c)

/-- Eight of the heads from the given starts, the keys of a class together. -/
def heads (w : Fin 3 → IVec S_ 32) (a : FVec F S4096x32x128 .bf16) : FVec F S4x8x1024x128 .bf16 :=
  shapeCast S4x8x1024x128
    (transpose S4x8x16x64x128 [1, 3, 0, 2, 4]
      (shapeCast S16x4x64x8x128
        (Host.dynamicSlice S4096x8x128 a (fun k => (w k (Shape.Idx.first h_S_)).toInt) sliceFits_S4096x32x128_S4096x8x128)
        shapeCasts_S4096x8x128_S16x4x64x8x128)
      transposes_S16x4x64x8x128_S4x8x16x64x128_1_3_0_2_4)
    shapeCasts_S4x8x16x64x128_S4x8x1024x128

/-- The starts of the cut. -/
def starts (c : Dev nD) : Fin 3 → IVec S_ 32 := ![constantI S_ 32 0#32, first c, constantI S_ 32 0#32]

/-- The keys or the values without their leading one. -/
abbrev flat (a : FVec F S1x4096x32x128 .bf16) : FVec F S4096x32x128 .bf16 := shapeCast S4096x32x128 a shapeCasts_S1x4096x32x128_S4096x32x128

/-! ## The operations in four stretches -/

/-- The shapes and the first cut's starts. -/
def opsA (c : Dev nD) : List (HloOp τ sig (Elt F)) :=
  [ StableHlo.nullary main_c (constantI S_ 32 1#32),
    StableHlo.nullary main_c_0 (constantI S_ 32 4#32),
    StableHlo.nullary main_v1 (constantI S_ 32 (Dev.word c)),
    StableHlo.binary main_v1 main_c main_v2 (Host.divui : (⟨S_, .i32⟩ : BufTy).Contents (Elt F) → (⟨S_, .i32⟩ : BufTy).Contents (Elt F) → (⟨S_, .i32⟩ : BufTy).Contents (Elt F)),
    StableHlo.binary main_v2 main_c_0 main_v3 (Host.remui : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.reshape main_arg0 main_v5 (rfl : (.bf16 : EltTy) = .bf16) shapeCasts_S1x256x1024_S256x1024,
    StableHlo.reshape main_arg4 main_v6 (rfl : (.bf16 : EltTy) = .bf16) shapeCasts_S1024x1024_S8x128x1024,
    StableHlo.reshape main_arg2 main_v7 (rfl : (.bf16 : EltTy) = .bf16) shapeCasts_S1x4096x32x128_S4096x32x128,
    StableHlo.nullary main_c_1 (constantI S_ 32 8#32),
    StableHlo.binary main_v4 main_c_1 main_v8 (muli : (⟨S_, .i32⟩ : BufTy).Contents (Elt F) → (⟨S_, .i32⟩ : BufTy).Contents (Elt F) → (⟨S_, .i32⟩ : BufTy).Contents (Elt F)),
    StableHlo.nullary main_c_2 (constantI S_ 32 0#32),
    StableHlo.binary main_v8 main_c_2 main_v9 (cmpi .slt : (⟨S_, .i32⟩ : BufTy).Contents (Elt F) → (⟨S_, .i32⟩ : BufTy).Contents (Elt F) → (⟨S_, .i1⟩ : BufTy).Contents (Elt F)),
    StableHlo.nullary main_c_3 (constantI S_ 32 32#32),
    StableHlo.binary main_v8 main_c_3 main_v10 (addi : (⟨S_, .i32⟩ : BufTy).Contents (Elt F) → (⟨S_, .i32⟩ : BufTy).Contents (Elt F) → (⟨S_, .i32⟩ : BufTy).Contents (Elt F)),
    StableHlo.ternary main_v9 main_v10 main_v8 main_v11 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_4 (constantI S_ 32 0#32),
    StableHlo.nullary main_c_5 (constantI S_ 32 0#32) ]

/-- The cut of the keys. -/
def opsB : List (HloOp τ sig (Elt F)) :=
  [ StableHlo.unaryIndexed main_v7 ![main_c_4, main_v11, main_c_5] ⟨S_, .i32⟩ main_v12 ((fun x i => Host.dynamicSlice S4096x8x128 x (fun k => (i k (Shape.Idx.first h_S_)).toInt) sliceFits_S4096x32x128_S4096x8x128) : (⟨S4096x32x128, .bf16⟩ : BufTy).Contents (Elt F) → (Fin 3 → (⟨S_, .i32⟩ : BufTy).Contents (Elt F)) → (⟨S4096x8x128, .bf16⟩ : BufTy).Contents (Elt F)),
    StableHlo.reshape main_v12 main_v13 (rfl : (.bf16 : EltTy) = .bf16) shapeCasts_S4096x8x128_S16x4x64x8x128,
    StableHlo.unary main_v13 main_v14 ((transpose S4x8x16x64x128 [1, 3, 0, 2, 4] · transposes_S16x4x64x8x128_S4x8x16x64x128_1_3_0_2_4) : (⟨S16x4x64x8x128, .bf16⟩ : BufTy).Contents (Elt F) → (⟨S4x8x16x64x128, .bf16⟩ : BufTy).Contents (Elt F)),
    StableHlo.reshape main_v14 main_v15 (rfl : (.bf16 : EltTy) = .bf16) shapeCasts_S4x8x16x64x128_S4x8x1024x128 ]

/-- The second cut's starts. -/
def opsC : List (HloOp τ sig (Elt F)) :=
  [ StableHlo.reshape main_arg3 main_v16 (rfl : (.bf16 : EltTy) = .bf16) shapeCasts_S1x4096x32x128_S4096x32x128,
    StableHlo.nullary main_c_6 (constantI S_ 32 8#32),
    StableHlo.binary main_v4 main_c_6 main_v17 (muli : (⟨S_, .i32⟩ : BufTy).Contents (Elt F) → (⟨S_, .i32⟩ : BufTy).Contents (Elt F) → (⟨S_, .i32⟩ : BufTy).Contents (Elt F)),
    StableHlo.nullary main_c_7 (constantI S_ 32 0#32),
    StableHlo.binary main_v17 main_c_7 main_v18 (cmpi .slt : (⟨S_, .i32⟩ : BufTy).Contents (Elt F) → (⟨S_, .i32⟩ : BufTy).Contents (Elt F) → (⟨S_, .i1⟩ : BufTy).Contents (Elt F)),
    StableHlo.nullary main_c_8 (constantI S_ 32 32#32),
    StableHlo.binary main_v17 main_c_8 main_v19 (addi : (⟨S_, .i32⟩ : BufTy).Contents (Elt F) → (⟨S_, .i32⟩ : BufTy).Contents (Elt F) → (⟨S_, .i32⟩ : BufTy).Contents (Elt F)),
    StableHlo.ternary main_v18 main_v19 main_v17 main_v20 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_9 (constantI S_ 32 0#32),
    StableHlo.nullary main_c_10 (constantI S_ 32 0#32) ]

/-- The cut of the values. -/
def opsD : List (HloOp τ sig (Elt F)) :=
  [ StableHlo.unaryIndexed main_v16 ![main_c_9, main_v20, main_c_10] ⟨S_, .i32⟩ main_v21 ((fun x i => Host.dynamicSlice S4096x8x128 x (fun k => (i k (Shape.Idx.first h_S_)).toInt) sliceFits_S4096x32x128_S4096x8x128) : (⟨S4096x32x128, .bf16⟩ : BufTy).Contents (Elt F) → (Fin 3 → (⟨S_, .i32⟩ : BufTy).Contents (Elt F)) → (⟨S4096x8x128, .bf16⟩ : BufTy).Contents (Elt F)),
    StableHlo.reshape main_v21 main_v22 (rfl : (.bf16 : EltTy) = .bf16) shapeCasts_S4096x8x128_S16x4x64x8x128,
    StableHlo.unary main_v22 main_v23 ((transpose S4x8x16x64x128 [1, 3, 0, 2, 4] · transposes_S16x4x64x8x128_S4x8x16x64x128_1_3_0_2_4) : (⟨S16x4x64x8x128, .bf16⟩ : BufTy).Contents (Elt F) → (⟨S4x8x16x64x128, .bf16⟩ : BufTy).Contents (Elt F)),
    StableHlo.reshape main_v23 main_v24 (rfl : (.bf16 : EltTy) = .bf16) shapeCasts_S4x8x16x64x128_S4x8x1024x128 ]

variable (V : Valuation τ sig (Elt F)) (c : Dev nD)

/-- The stretches in order are the operations before the kernel. -/
theorem after_split : StableHlo.after (hostOps0 c) V = StableHlo.after opsD (StableHlo.after opsC (StableHlo.after opsB (StableHlo.after (opsA c) V))) := by
  rw [← StableHlo.after_append, ← StableHlo.after_append, ← StableHlo.after_append]
  rfl

/-! ## Each stretch's results -/

/-- The cut keys. -/
theorem resB : StableHlo.after opsB V main_v15 = heads ![V main_c_4, V main_v11, V main_c_5] (V main_v7) := by
  have h : StableHlo.after opsB V main_v15 = heads (fun k => cast (by match k with | 0 | 1 | 2 => rfl) (V (![main_c_4, main_v11, main_c_5] k : Ref sig .tc))) (V main_v7) := by
    unfold opsB heads
    after_results_simp
    rfl
  rw [h]
  congr 1
  funext k
  match k with
  | 0 | 1 | 2 => rfl

/-- The cut values. -/
theorem resD : StableHlo.after opsD V main_v24 = heads ![V main_c_9, V main_v20, V main_c_10] (V main_v16) := by
  have h : StableHlo.after opsD V main_v24 = heads (fun k => cast (by match k with | 0 | 1 | 2 => rfl) (V (![main_c_9, main_v20, main_c_10] k : Ref sig .tc))) (V main_v16) := by
    unfold opsD heads
    after_results_simp
    rfl
  rw [h]
  congr 1
  funext k
  match k with
  | 0 | 1 | 2 => rfl
/-- The rows as a block. -/
theorem resA_x : StableHlo.after (opsA c) V main_v5 = shapeCast S256x1024 (V main_arg0) shapeCasts_S1x256x1024_S256x1024 := by
  unfold opsA; after_results_simp <;> rfl
/-- The output weights by head. -/
theorem resA_wo : StableHlo.after (opsA c) V main_v6 = shapeCast S8x128x1024 (V main_arg4) shapeCasts_S1024x1024_S8x128x1024 := by
  unfold opsA; after_results_simp <;> rfl
/-- The keys, flat. -/
theorem resA_k : StableHlo.after (opsA c) V main_v7 = flat (V main_arg2) := by
  unfold opsA; after_results_simp <;> rfl
/-- The first cut's first start. -/
theorem resA_0 : StableHlo.after (opsA c) V main_c_4 = constantI S_ 32 0#32 := by
  unfold opsA; after_results_simp <;> rfl
/-- The first cut's middle start. -/
theorem resA_1 : StableHlo.after (opsA c) V main_v11 = first c := by
  unfold opsA; after_results_simp <;> rfl
/-- The first cut's last start. -/
theorem resA_2 : StableHlo.after (opsA c) V main_c_5 = constantI S_ 32 0#32 := by
  unfold opsA; after_results_simp <;> rfl
/-- The device's place on the axis. -/
theorem resA_4 : StableHlo.after (opsA c) V main_v4 = id (Host.remui (Host.divui (constantI S_ 32 (Dev.word c)) (constantI S_ 32 1#32)) (constantI S_ 32 4#32)) := by
  unfold opsA; after_results_simp <;> rfl

/-- The value of the second cut's middle start, from the device's place on the axis. -/
theorem resC_1 (h : V main_v4 = id (Host.remui (Host.divui (constantI S_ 32 (Dev.word c)) (constantI S_ 32 1#32)) (constantI S_ 32 4#32))) :
    StableHlo.after opsC V main_v20 = first c := by
  unfold first eight
  rw [← h]
  unfold opsC; after_results_simp <;> rfl
/-- The values, flat. -/
theorem resC_v : StableHlo.after opsC V main_v16 = flat (V main_arg3) := by
  unfold opsC; after_results_simp <;> rfl
/-- The second cut's first start. -/
theorem resC_0 : StableHlo.after opsC V main_c_9 = constantI S_ 32 0#32 := by
  unfold opsC; after_results_simp <;> rfl
/-- The second cut's last start. -/
theorem resC_2 : StableHlo.after opsC V main_c_10 = constantI S_ 32 0#32 := by
  unfold opsC; after_results_simp <;> rfl

/-! ## What each stretch leaves -/

theorem keepA : StableHlo.after (opsA c) V main_arg3 = V main_arg3 := by unfold opsA; after_results_simp
theorem keepB_x : StableHlo.after opsB V main_v5 = V main_v5 := by unfold opsB; after_results_simp
theorem keepB_wo : StableHlo.after opsB V main_v6 = V main_v6 := by unfold opsB; after_results_simp
theorem keepB_4 : StableHlo.after opsB V main_v4 = V main_v4 := by unfold opsB; after_results_simp
theorem keepB_v : StableHlo.after opsB V main_arg3 = V main_arg3 := by unfold opsB; after_results_simp
theorem keepC_x : StableHlo.after opsC V main_v5 = V main_v5 := by unfold opsC; after_results_simp
theorem keepC_wo : StableHlo.after opsC V main_v6 = V main_v6 := by unfold opsC; after_results_simp
theorem keepC_k : StableHlo.after opsC V main_v15 = V main_v15 := by unfold opsC; after_results_simp
theorem keepD_x : StableHlo.after opsD V main_v5 = V main_v5 := by unfold opsD; after_results_simp
theorem keepD_wo : StableHlo.after opsD V main_v6 = V main_v6 := by unfold opsD; after_results_simp
theorem keepD_k : StableHlo.after opsD V main_v15 = V main_v15 := by unfold opsD; after_results_simp

/-! ## All of them -/

/-- The rows as a block. -/
theorem after_x : StableHlo.after (hostOps0 c) V main_v5 = shapeCast S256x1024 (V main_arg0) shapeCasts_S1x256x1024_S256x1024 := by
  rw [after_split, keepD_x, keepC_x, keepB_x, resA_x]
/-- The output weights by head. -/
theorem after_wo : StableHlo.after (hostOps0 c) V main_v6 = shapeCast S8x128x1024 (V main_arg4) shapeCasts_S1024x1024_S8x128x1024 := by
  rw [after_split, keepD_wo, keepC_wo, keepB_wo, resA_wo]
/-- The keys of the device's heads. -/
theorem after_k : StableHlo.after (hostOps0 c) V main_v15 = heads (starts c) (flat (V main_arg2)) := by
  rw [after_split, keepD_k, keepC_k, resB, resA_0, resA_1, resA_2, resA_k]; rfl
/-- The values of the device's heads. -/
theorem after_v : StableHlo.after (hostOps0 c) V main_v24 = heads (starts c) (flat (V main_arg3)) := by
  rw [after_split, resD, resC_0, resC_2, resC_v, resC_1 _ c, keepB_v, keepA]
  · rfl
  · rw [keepB_4, resA_4]

end Cert.KernelIdeal.Ring

end
-- ==== Proof.Value.PrepAt.lean ====
/-
# The launched arrays at an index
-/
module

public import proofs.«01_k».proof.Proof.Value.Prep
public import Idealize.ShloMosaic.Lib.Pointwise

@[expose] public section

noncomputable section

namespace Cert.KernelIdeal.Ring

open Cert.KernelIdeal Cert.KernelIdeal.Gen
open Idealize.ShloMosaic Idealize.ShloMosaic.TcCoe

/-- The starts as numbers: eight heads a device. -/
theorem starts_toInt : ∀ (c : Dev nD) (k : Fin 3),
    (starts c k (Shape.Idx.first h_S_)).toInt = ((![0, c.val * 8, 0] : Fin 3 → ℕ) k : Int) := by decide

/-- The cut at an index. -/
theorem cut_at (c : Dev nD) (a : FVec Ideal S4096x32x128 .bf16) (k : Fin 4096) (h : Fin 8) (d : Fin 128) :
    Host.dynamicSlice S4096x8x128 a (fun k => (starts c k (Shape.Idx.first h_S_)).toInt) sliceFits_S4096x32x128_S4096x8x128 (ix3 k h d)
      = a (ix3 k ⟨c.val * 8 + h.val, by have := c.isLt; simp only [nD] at this; omega⟩ d) := by
  have hc : c.val < 4 := c.isLt
  simp only [starts_toInt]
  rw [Host.dynamicSlice_apply]
  congr 1
  funext a
  match a with
  | ⟨0, _⟩ =>
    refine Fin.ext ?_
    show Host.clampedStart S4096x32x128 S4096x8x128 _ _ _ + _ = _
    rw [Host.clampedStart_of_le _ _ _ 0 rfl (le_refl _)]
    exact Nat.zero_add _
  | ⟨1, _⟩ =>
    refine Fin.ext ?_
    show Host.clampedStart S4096x32x128 S4096x8x128 _ _ _ + _ = _
    rw [Host.clampedStart_of_le _ _ _ (c.val * 8) rfl (by show c.val * 8 + 8 ≤ 32; omega)]
    rfl
  | ⟨2, _⟩ =>
    refine Fin.ext ?_
    show Host.clampedStart S4096x32x128 S4096x8x128 _ _ _ + _ = _
    rw [Host.clampedStart_of_le _ _ _ 0 rfl (le_refl _)]
    exact Nat.zero_add _

/-- The device's heads at an index. -/
theorem heads_at (c : Dev nD) (a : FVec Ideal S1x4096x32x128 .bf16) (cl : Fin 4) (h : Fin 8) (t : Fin 1024) (d : Fin 128) :
    heads (starts c) (flat a) (ix4 cl h t d)
      = a (ix4 0 ⟨(t.val / 64 * 4 + cl.val) * 64 + t.val % 64, by omega⟩ ⟨c.val * 8 + h.val, by have := c.isLt; simp only [nD] at this; omega⟩ d) := by
  have e := cut_at c (flat a) ⟨(t.val / 64 * 4 + cl.val) * 64 + t.val % 64, by omega⟩ h d
  have f : flat a (ix3 ⟨(t.val / 64 * 4 + cl.val) * 64 + t.val % 64, by omega⟩ ⟨c.val * 8 + h.val, by have := c.isLt; simp only [nD] at this; omega⟩ d)
      = a (ix4 0 ⟨(t.val / 64 * 4 + cl.val) * 64 + t.val % 64, by omega⟩ ⟨c.val * 8 + h.val, by have := c.isLt; simp only [nD] at this; omega⟩ d) := by
    pointwise [flat]
  rw [← f, ← e]
  unfold heads
  generalize Host.dynamicSlice S4096x8x128 _ _ _ = b
  pointwise
  exact congrArg (fun k => b (ix3 k h d)) (Fin.ext (by simp only []; omega))

/-- The output weights at an index. -/
theorem wo_at (a : FVec Ideal S1024x1024 .bf16) (h : Fin 8) (d : Fin 128) (c : Fin 1024) :
    shapeCast S8x128x1024 a shapeCasts_S1024x1024_S8x128x1024 (ix3 h d c) = a (ix2 ⟨h.val * 128 + d.val, by omega⟩ c) := by
  pointwise

/-- The rows at an index. -/
theorem x_at (a : FVec Ideal S1x256x1024 .bf16) (r : Fin 256) (z : Fin 1024) :
    shapeCast S256x1024 a shapeCasts_S1x256x1024_S256x1024 (ix2 r z) = a (ix3 0 r z) := by
  pointwise

end Cert.KernelIdeal.Ring

end
-- ==== Proof.Value.Reference.lean ====
/-
# The reference in the steps it is made of
-/
module

public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen
open Idealize.ShloMosaic Idealize.ShloMosaic.TcCoe

variable {F : FTy → Type} [FloatOps F]

/-! ## The mask -/

/-- A row's block of 64. -/
def rowBlock : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- A key's block of 64. -/
def keyBlock : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

/-- The divisor four. -/
def four : IVec S_ 32 :=
  select (cmpi .eq (id (constantI S_ 32 4#32)) (constantI S_ 32 0#32)) (constantI S_ 32 1#32) (id (constantI S_ 32 4#32))

/-- The remainder by four, over the keys. -/
def keyClass (b : IVec S1x4096 32) : IVec S1x4096 32 :=
  select (andi (cmpi .ne (cmpi .slt (Host.remsi b (broadcastInDim S1x4096 ![] bcast_S_S1x4096 four)) (broadcastInDim S1x4096 ![] bcast_S_S1x4096 (constantI S_ 32 0#32)))
        (broadcastInDim S1x4096 ![] bcast_S_S1x4096 (cmpi .slt four (constantI S_ 32 0#32))))
      (cmpi .ne (Host.remsi b (broadcastInDim S1x4096 ![] bcast_S_S1x4096 four)) (broadcastInDim S1x4096 ![] bcast_S_S1x4096 (constantI S_ 32 0#32))))
    (addi (Host.remsi b (broadcastInDim S1x4096 ![] bcast_S_S1x4096 four)) (broadcastInDim S1x4096 ![] bcast_S_S1x4096 four))
    (Host.remsi b (broadcastInDim S1x4096 ![] bcast_S_S1x4096 four))

/-- The remainder by four, over the rows. -/
def rowClass (b : IVec S1024x1 32) : IVec S1024x1 32 :=
  select (andi (cmpi .ne (cmpi .slt (Host.remsi b (broadcastInDim S1024x1 ![] bcast_S_S1024x1 four)) (broadcastInDim S1024x1 ![] bcast_S_S1024x1 (constantI S_ 32 0#32)))
        (broadcastInDim S1024x1 ![] bcast_S_S1024x1 (cmpi .slt four (constantI S_ 32 0#32))))
      (cmpi .ne (Host.remsi b (broadcastInDim S1024x1 ![] bcast_S_S1024x1 four)) (broadcastInDim S1024x1 ![] bcast_S_S1024x1 (constantI S_ 32 0#32))))
    (addi (Host.remsi b (broadcastInDim S1024x1 ![] bcast_S_S1024x1 four)) (broadcastInDim S1024x1 ![] bcast_S_S1024x1 four))
    (Host.remsi b (broadcastInDim S1024x1 ![] bcast_S_S1024x1 four))

/-- The blocks as a column of the rows and as a row of the keys. -/
def rowCol : IVec S1024x1 32 := broadcastInDim S1024x1 ![0] bcast_S1024_S1024x1_0 rowBlock
def keyRow : IVec S1x4096 32 := broadcastInDim S1x4096 ![1] bcast_S4096_S1x4096_1 keyBlock

/-- Which keys a row attends to. -/
def mask : IVec S1024x4096 1 :=
  ori (cmpi .eq (broadcastInDim S1024x4096 ![0, 1] bcast_S1024x1_S1024x4096_0_1 rowCol)
        (broadcastInDim S1024x4096 ![0, 1] bcast_S1x4096_S1024x4096_0_1 keyRow))
    (cmpi .eq (broadcastInDim S1024x4096 ![0, 1] bcast_S1x4096_S1024x4096_0_1 (keyClass keyRow))
        (broadcastInDim S1024x4096 ![0, 1] bcast_S1024x1_S1024x4096_0_1 (rowClass rowCol)))

/-- The mask for every head. -/
def maskAll (b : IVec S1024x4096 1) : IVec S1x32x1024x4096 1 :=
  broadcastInDim S1x32x1024x4096 ![0, 1, 2, 3] bcast_S1x1x1024x4096_S1x32x1024x4096_0_1_2_3
    (broadcastInDim S1x1x1024x4096 ![2, 3] bcast_S1024x4096_S1x1x1024x4096_2_3 b)

/-- Whether a row attends to any key, for every head. -/
def keep (b : IVec S1024x4096 1) : IVec S1x32x1024x1 1 :=
  broadcastInDim S1x32x1024x1 ![0, 1, 2, 3] bcast_S1x1x1024x1_S1x32x1024x1_0_1_2_3
    (broadcastInDim S1x1x1024x1 ![2] bcast_S1024_S1x1x1024x1_2
      (Host.reduce IntOp.ori b (constantI S_ 1 0#1) reducesTo_S1024x4096_S1024_d1 h_S_))

/-! ## The attention -/

/-- The queries by head. -/
def queries (x : FVec F S1x1024x1024 .bf16) (wq : FVec F S1024x4096 .bf16) : FVec F S1x1024x32x128 .bf16 :=
  shapeCast S1x1024x32x128 (truncf .bf16 (Host.dotGeneral dot_S1x1024x1024_S1024x4096_S1x1024x4096_2_0_01_1_n_n none x wq) bitsLt_bf16_f32)
    shapeCasts_S1x1024x4096_S1x1024x32x128

/-- The scaled products of queries and keys. -/
def raw (q : FVec F S1x1024x32x128 .bf16) (k : FVec F S1x4096x32x128 .bf16) : FVec F S1x32x1024x4096 .f32 :=
  mulf (extf .f32 (truncf .bf16 (Host.dotGeneral dot_S1x1024x32x128_S1x4096x32x128_S1x32x1024x4096_3_3_1_1_02_02 none q k) bitsLt_bf16_f32) bitsLt_bf16_f32)
    (broadcastInDim S1x32x1024x4096 ![] bcast_S_S1x32x1024x4096 (constant S_ .f32 0x3DB504F3#32))

/-- The scores: minus infinity off the mask. -/
def scores (b : IVec S1024x4096 1) (s : FVec F S1x32x1024x4096 .f32) : FVec F S1x32x1024x4096 .f32 :=
  select (maskAll b) s (broadcastInDim S1x32x1024x4096 ![] bcast_S_S1x32x1024x4096 (id (constant S_ .f32 0xFF800000#32)))

/-- A value of every row and head, spread over the keys. -/
def spread (r : FVec F S1x32x1024x1 .f32) : FVec F S1x32x1024x4096 .f32 :=
  broadcastInDim S1x32x1024x4096 ![0, 1, 2, 3] bcast_S1x32x1024x1_S1x32x1024x4096_0_1_2_3 r
def col (r : FVec F S1x32x1024 .f32) : FVec F S1x32x1024x1 .f32 :=
  broadcastInDim S1x32x1024x1 ![0, 1, 2] bcast_S1x32x1024_S1x32x1024x1_0_1_2 r

/-- Exponentials of the scores less their row's greatest. -/
def expo (s : FVec F S1x32x1024x4096 .f32) : FVec F S1x32x1024x4096 .f32 :=
  Host.exp (subf s (spread (col (Host.reduce FloatOps.maximumf s (constant S_ .f32 0xFF800000#32) reducesTo_S1x32x1024x4096_S1x32x1024_d3 h_S_))))

/-- The rows' sums, one where a row attends to no key. -/
def sums (b : IVec S1024x4096 1) (e : FVec F S1x32x1024x4096 .f32) : FVec F S1x32x1024x1 .f32 :=
  select (keep b) (col (Host.reduceAdd e (constant S_ .f32 0x00000000#32) reducesTo_S1x32x1024x4096_S1x32x1024_d3 h_S_))
    (broadcastInDim S1x32x1024x1 ![] bcast_S_S1x32x1024x1 (id (constant S_ .f32 0x3F800000#32)))

/-- The weights: zero off the mask. -/
def weights (b : IVec S1024x4096 1) (e : FVec F S1x32x1024x4096 .f32) : FVec F S1x32x1024x4096 .f32 :=
  select (maskAll b) (Host.divf e (spread (sums b e)))
    (broadcastInDim S1x32x1024x4096 ![] bcast_S_S1x32x1024x4096 (id (constant S_ .f32 0x00000000#32)))

/-- The weighted means of the values, and their product with the output weights. -/
def project (w : FVec F S1x32x1024x4096 .f32) (v : FVec F S1x4096x32x128 .bf16) (wo : FVec F S4096x1024 .bf16) : FVec F S1x1024x1024 .f32 :=
  Host.dotGeneral dot_S1x1024x4096_S4096x1024_S1x1024x1024_2_0_01_1_n_n none
    (shapeCast S1x1024x4096 (transpose S1x1024x32x128 [0, 3, 1, 2]
      (Host.dotGeneral dot_S1x4096x32x128_S1x32x1024x4096_S1x32x128x1024_1_3_3_2_02_01 none (extf .f32 v bitsLt_bf16_f32) w)
      transposes_S1x32x128x1024_S1x1024x32x128_0_3_1_2) shapeCasts_S1x1024x32x128_S1x1024x4096)
    (extf .f32 wo bitsLt_bf16_f32)

/-- The reference's result of its five arrays. -/
def whole (x : FVec F S1x1024x1024 .bf16) (wq : FVec F S1024x4096 .bf16) (k v : FVec F S1x4096x32x128 .bf16)
    (wo : FVec F S4096x1024 .bf16) : FVec F S1x1024x1024 .f32 :=
  project (weights mask (expo (scores mask (raw (queries x wq) k)))) v wo

set_option maxRecDepth 16384 in
/-- The printed result is that. -/
theorem res_eq (m : (ℓ : Loc nD τ sig) → Buf (Elt F) ℓ) (c : Dev nD) :
    res_main_v44 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Value

end
-- ==== Proof.Value.MaskAt.lean ====
/-
# The reference's mask at a row and a key

A row attends to a key exactly where their blocks of 64 leave the same remainder by four: equal blocks do so too.
Every row attends to some key.
-/
module

public import proofs.«01_k».proof.Proof.Value.Reference

@[expose] public section

noncomputable section

namespace Cert.ReferenceIdeal.Value

open Cert.ReferenceIdeal Cert.ReferenceIdeal.Gen
open Idealize.ShloMosaic Idealize.ShloMosaic.TcCoe

/-- A word's sign. -/
def sgn (w : BitVec 32) : BitVec 32 := if w = 0 then 0 else if w.msb = true then -1 else 1

/-- The printed floor quotient of a word by 64. -/
def quot64 (w : BitVec 32) : BitVec 32 :=
  Scalar.select
    (IntOp.andi
      (IntOp.cmpi CmpIPredicate.ne (sgn w) (sgn 64#32))
      (IntOp.cmpi CmpIPredicate.ne (IntOp.remsi ArithUnit.host w 64#32) 0#32))
    (IntOp.subi (IntOp.divsi ArithUnit.host w 64#32) 1#32)
    (IntOp.divsi ArithUnit.host w 64#32)

/-- The printed divisor four. -/
def fourWord : BitVec 32 := Scalar.select (IntOp.cmpi CmpIPredicate.eq 4#32 0#32) (1#32) (4#32)

/-- The printed remainder of a word by four. -/
def rem4 (w : BitVec 32) : BitVec 32 :=
  Scalar.select
    (IntOp.andi
      (IntOp.cmpi CmpIPredicate.ne (IntOp.cmpi CmpIPredicate.slt (IntOp.remsi ArithUnit.host w fourWord) 0#32)
        (IntOp.cmpi CmpIPredicate.slt fourWord 0#32))
      (IntOp.cmpi CmpIPredicate.ne (IntOp.remsi ArithUnit.host w fourWord) 0#32))
    (IntOp.addi (IntOp.remsi ArithUnit.host w fourWord) fourWord)
    (IntOp.remsi ArithUnit.host w fourWord)

theorem quot64_eq : ∀ n : Fin 4096, quot64 (BitVec.ofNat 32 n.val) = BitVec.ofNat 32 (n.val / 64) := by decide +kernel

theorem rem4_eq : ∀ n : Fin 64, rem4 (BitVec.ofNat 32 n.val) = BitVec.ofNat 32 (n.val % 4) := by decide +kernel

/-- Two blocks' bit: set where they are equal or leave the same remainder. -/
def bit (a b : BitVec 32) : BitVec 1 :=
  IntOp.ori (IntOp.cmpi CmpIPredicate.eq a b) (IntOp.cmpi CmpIPredicate.eq (rem4 b) (rem4 a))

theorem bit_eq : ∀ a : Fin 16, ∀ b : Fin 64, bit (BitVec.ofNat 32 a.val) (BitVec.ofNat 32 b.val) = if b.val % 4 = a.val % 4 then 1#1 else 0#1 := by
  decide +kernel

theorem rowBlock_at (i : Fin 1024) : rowBlock (ix1 i) = BitVec.ofNat 32 (i.val / 64) := by
  refine Eq.trans ?_ (quot64_eq ⟨i.val, by omega⟩)
  pointwise [rowBlock]
  rfl

theorem keyBlock_at (i : Fin 4096) : keyBlock (ix1 i) = BitVec.ofNat 32 (i.val / 64) := by
  refine Eq.trans ?_ (quot64_eq i)
  pointwise [keyBlock]
  rfl

theorem keyRow_at (i : Fin 4096) : keyRow (ix2 0 i) = BitVec.ofNat 32 (i.val / 64) := by
  refine Eq.trans ?_ (keyBlock_at i)
  pointwise [keyRow]

theorem rowCol_at (i : Fin 1024) : rowCol (ix2 i 0) = BitVec.ofNat 32 (i.val / 64) := by
  refine Eq.trans ?_ (rowBlock_at i)
  pointwise [rowCol]

theorem keyClass_at (b : IVec S1x4096 32) (i : Fin 4096) : keyClass b (ix2 0 i) = rem4 (b (ix2 0 i)) := by
  pointwise [keyClass, four]
  rfl

theorem rowClass_at (b : IVec S1024x1 32) (i : Fin 1024) : rowClass b (ix2 i 0) = rem4 (b (ix2 i 0)) := by
  pointwise [rowClass, four]
  rfl

/-- The mask's bit at a row and a key. -/
theorem mask_at (i : Fin 1024) (k : Fin 4096) :
    mask (ix2 i k) = if k.val / 64 % 4 = i.val / 64 % 4 then 1#1 else 0#1 := by
  have h : mask (ix2 i k) = bit (rowCol (ix2 i 0)) (keyRow (ix2 0 k)) := by
    pointwise [mask]
    rw [keyClass_at, rowClass_at]; rfl
  rw [h, rowCol_at, keyRow_at]
  exact bit_eq ⟨i.val / 64, by omega⟩ ⟨k.val / 64, by omega⟩

theorem ori_one : ∀ x : BitVec 1, IntOp.ori 1#1 x = 1#1 := by decide

/-- Every row attends to some key: to those of its own block. -/
theorem keep_at (h : Fin 32) (i : Fin 1024) : keep mask (ix4 0 h i 0) = 1#1 := by
  have e : keep mask (ix4 0 h i 0) = Finset.univ.fold IntOp.ori 0#1 (fun k : Fin 4096 => mask (ix2 i k)) := by
    generalize mask = b
    pointwise [keep]
  rw [e, ← Finset.insert_erase (Finset.mem_univ (⟨i.val, by omega⟩ : Fin 4096)),
    Finset.fold_insert (Finset.notMem_erase _ _), mask_at, if_pos rfl, ori_one]

end Cert.ReferenceIdeal.Value

end
-- ==== Proof.Value.ReferenceAt.lean ====
/-
# The reference at an index
-/
module

public import proofs.«01_k».proof.Proof.Value.Reference
public import proofs.«01_k».proof.Proof.Value.MaskAt
public import proofs.«01_k».proof.Proof.Value.Softmax
public import Idealize.ShloMosaic.Lib.Pointwise

@[expose] public section

noncomputable section

namespace Cert.ReferenceIdeal.Value

open Cert.ReferenceIdeal Cert.ReferenceIdeal.Gen Cert.Attention
open Idealize.ShloMosaic Idealize.ShloMosaic.TcCoe
open scoped BigOperators

/-- The word of minus infinity. -/
theorem bot_word : Ideal.ofBits .f32 0xFF800000#32 = ⊥ := by simp [Ideal.ofBits, Ideal.ieee]

/-- The word of zero. -/
theorem nil_word : Ideal.ofBits .f32 0x00000000#32 = 0 := by simp [Ideal.ofBits, Ideal.ieee]

/-- The scale of the scores: the single-precision number nearest one over the root of 128. -/
def scale : EReal := Ideal.ofBits .f32 0x3DB504F3#32

/-- The mask for every head is the mask. -/
theorem maskAll_at (b : IVec S1024x4096 1) (h : Fin 32) (r : Fin 1024) (i : Fin 4096) :
    maskAll b (ix4 0 h r i) = b (ix2 r i) := by
  pointwise [maskAll]

/-- A query: the row times a column of the query weights. -/
theorem queries_at (x : FVec Ideal S1x1024x1024 .bf16) (wq : FVec Ideal S1024x4096 .bf16) (i : Fin 1024) (h : Fin 32) (d : Fin 128) :
    queries x wq (ix4 0 i h d) = ∑ z : Fin 1024, x (ix3 0 i z) * wq (ix2 z ⟨h.val * 128 + d.val, by omega⟩) := by
  pointwise [queries]

/-- A scaled product of a query and a key. -/
theorem raw_at (q : FVec Ideal S1x1024x32x128 .bf16) (k : FVec Ideal S1x4096x32x128 .bf16) (h : Fin 32) (r : Fin 1024) (i : Fin 4096) :
    raw q k (ix4 0 h r i) = (∑ d : Fin 128, q (ix4 0 r h d) * k (ix4 0 i h d)) * scale := by
  pointwise [raw, scale]

/-- A score: the scaled product, minus infinity off the mask. -/
theorem scores_at (b : IVec S1024x4096 1) (s : FVec Ideal S1x32x1024x4096 .f32) (h : Fin 32) (r : Fin 1024) (i : Fin 4096) :
    scores b s (ix4 0 h r i) = if b (ix2 r i) = 1#1 then s (ix4 0 h r i) else ⊥ := by
  have e := bot_word
  rw [← e, ← maskAll_at b h r i]
  rfl

/-- A value spread over the keys. -/
theorem spread_at (r : FVec Ideal S1x32x1024x1 .f32) (h : Fin 32) (i : Fin 1024) (k : Fin 4096) :
    spread r (ix4 0 h i k) = r (ix4 0 h i 0) := by
  pointwise [spread]

/-- A value of every row as a column. -/
theorem col_at (r : FVec Ideal S1x32x1024 .f32) (h : Fin 32) (i : Fin 1024) :
    col r (ix4 0 h i 0) = r (ix3 0 h i) := by
  pointwise [col]

/-- A row's sum over the keys. -/
theorem total_at (e : FVec Ideal S1x32x1024x4096 .f32) (h : Fin 32) (i : Fin 1024) :
    Host.reduceAdd e (constant S_ .f32 0x00000000#32) reducesTo_S1x32x1024x4096_S1x32x1024_d3 h_S_ (ix3 0 h i)
      = ∑ k : Fin 4096, e (ix4 0 h i k) := by
  pointwise

/-- An exponential, its row's greatest taken off. -/
theorem expo_at (s : FVec Ideal S1x32x1024x4096 .f32) (h : Fin 32) (r : Fin 1024) (i : Fin 4096) :
    expo s (ix4 0 h r i) = ex (fun k : Fin 4096 => s (ix4 0 h r k)) i := by
  have e := bot_word
  pointwise [expo, spread, col]
  rw [e]
  rfl

/-- A row's sum: every row attends to some key. -/
theorem sums_at (e : FVec Ideal S1x32x1024x4096 .f32) (h : Fin 32) (i : Fin 1024) :
    sums mask e (ix4 0 h i 0) = ∑ k : Fin 4096, e (ix4 0 h i k) := by
  have hk := keep_at h i
  unfold sums
  generalize keep mask = b at hk ⊢
  show Scalar.select (b (ix4 0 h i 0)) _ _ = _
  rw [hk]
  exact (col_at _ h i).trans (total_at e h i)

/-- A quotient where the mask holds, zero elsewhere. -/
theorem pick_at (b : IVec S1x32x1024x4096 1) (e u : FVec Ideal S1x32x1024x4096 .f32) (j : S1x32x1024x4096.Idx) :
    select b (Host.divf e u) (broadcastInDim S1x32x1024x4096 ![] bcast_S_S1x32x1024x4096 (id (constant S_ .f32 0x00000000#32))) j
      = if b j = 1#1 then Ideal.div (e j) (u j) else Ideal.ofBits .f32 0x00000000#32 := rfl

/-- A weight: zero off the mask. -/
theorem weights_at (e : FVec Ideal S1x32x1024x4096 .f32) (h : Fin 32) (r : Fin 1024) (i : Fin 4096) :
    weights mask e (ix4 0 h r i) = if mask (ix2 r i) = 1#1 then Ideal.div (e (ix4 0 h r i)) (∑ k : Fin 4096, e (ix4 0 h r k)) else 0 := by
  unfold weights
  rw [pick_at, maskAll_at, spread_at, sums_at, nil_word]

/-- The weighted sums of the values, times the output weights. -/
theorem project_at (w : FVec Ideal S1x32x1024x4096 .f32) (v : FVec Ideal S1x4096x32x128 .bf16) (wo : FVec Ideal S4096x1024 .bf16)
    (i : Fin 1024) (c : Fin 1024) :
    project w v wo (ix3 0 i c) = ∑ n : Fin 4096,
      (∑ k : Fin 4096, v (ix4 0 k ⟨n.val / 128, by omega⟩ ⟨n.val % 128, by omega⟩) * w (ix4 0 ⟨n.val / 128, by omega⟩ i k)) * wo (ix2 n c) := by
  pointwise [project]

end Cert.ReferenceIdeal.Value

end
-- ==== Proof.Value.Whole.lean ====
/-
# The reference's result at an index: a mean over the keys of the row's class
-/
module

public import proofs.«01_k».proof.Proof.Value.ReferenceAt

@[expose] public section

noncomputable section

namespace Cert.ReferenceIdeal.Value

open Cert.ReferenceIdeal Cert.ReferenceIdeal.Gen Cert.Attention
open Idealize.ShloMosaic Idealize.ShloMosaic.TcCoe
open scoped BigOperators

/-- The keys of a class, in order: those whose block of 64 leaves that remainder by four. -/
abbrev key (cl : Fin 4) (t : Fin 1024) : Fin 4096 := ⟨(t.val / 64 * 4 + cl.val) * 64 + t.val % 64, by omega⟩

/-- Two of a class's keys differ. -/
theorem key_inj (cl : Fin 4) : Function.Injective (key cl) := by
  intro a b h
  have := congrArg Fin.val h
  simp only [key] at this
  exact Fin.ext (by omega)

/-- A key is of a class when its block leaves that remainder. -/
theorem key_mem (cl : Fin 4) (k : Fin 4096) : k ∈ Set.range (key cl) ↔ k.val / 64 % 4 = cl.val := by
  constructor
  · rintro ⟨t, rfl⟩
    simp only [key]
    omega
  · intro h
    refine ⟨⟨k.val / 256 * 64 + k.val % 64, by omega⟩, Fin.ext ?_⟩
    simp only [key]
    omega

/-- A row's class. -/
abbrev classOf (i : Fin 1024) : Fin 4 := ⟨i.val / 64 % 4, by omega⟩

/-- The mask keeps the keys of the row's class. -/
theorem mask_iff (i : Fin 1024) (k : Fin 4096) : mask (ix2 i k) = 1#1 ↔ k ∈ Set.range (key (classOf i)) := by
  rw [key_mem, mask_at]
  by_cases h : k.val / 64 % 4 = i.val / 64 % 4
  · rw [if_pos h]; exact ⟨fun _ => h, fun _ => rfl⟩
  · rw [if_neg h]; exact ⟨fun a => absurd a (by decide), fun a => absurd a h⟩

/-- A row's weighted sum of a value of every key. -/
theorem mean_at (s : FVec Ideal S1x32x1024x4096 .f32) (u : Fin 4096 → EReal) (h : Fin 32) (i : Fin 1024) :
    ∑ k : Fin 4096, u k * weights mask (expo (scores mask s)) (ix4 0 h i k)
      = mean (fun t => s (ix4 0 h i (key (classOf i) t))) (fun t => u (key (classOf i) t)) := by
  let S : Fin 4096 → EReal := fun k => if mask (ix2 i k) = 1#1 then s (ix4 0 h i k) else ⊥
  have hS : (fun k : Fin 4096 => scores mask s (ix4 0 h i k)) = S := funext fun k => scores_at mask s h i k
  have hE : ∀ k, expo (scores mask s) (ix4 0 h i k) = ex S k := fun k => by rw [expo_at, hS]
  have hW : ∀ k, weights mask (expo (scores mask s)) (ix4 0 h i k) = if mask (ix2 i k) = 1#1 then weight S k else 0 := fun k => by
    rw [weights_at, weight]; simp only [hE]
  have hk := mean_kept (key (classOf i)) (key_inj _) S u (fun k => weights mask (expo (scores mask s)) (ix4 0 h i k))
    (fun k hk => if_neg fun e => hk ((mask_iff i k).1 e))
    (fun k hk => (hW k).trans (if_pos ((mask_iff i k).2 hk)))
    (fun k hk => (hW k).trans (if_neg fun e => hk ((mask_iff i k).1 e)))
  have hc : S ∘ key (classOf i) = fun t => s (ix4 0 h i (key (classOf i) t)) :=
    funext fun t => if_pos ((mask_iff i _).2 ⟨t, rfl⟩)
  rw [hc] at hk
  exact (Finset.sum_congr rfl fun k _ => mul_comm _ _).trans hk

/-- The reference's result at a row and a column. -/
theorem whole_at (x : FVec Ideal S1x1024x1024 .bf16) (wq : FVec Ideal S1024x4096 .bf16) (k v : FVec Ideal S1x4096x32x128 .bf16)
    (wo : FVec Ideal S4096x1024 .bf16) (i c : Fin 1024) :
    whole x wq k v wo (ix3 0 i c) = ∑ n : Fin 4096,
      mean (fun t => (∑ d : Fin 128, (∑ z : Fin 1024, x (ix3 0 i z) * wq (ix2 z ⟨n.val / 128 * 128 + d.val, by omega⟩))
            * k (ix4 0 (key (classOf i) t) ⟨n.val / 128, by omega⟩ d)) * scale)
          (fun t => v (ix4 0 (key (classOf i) t) ⟨n.val / 128, by omega⟩ ⟨n.val % 128, by omega⟩)) * wo (ix2 n c) := by
  unfold whole
  rw [project_at]
  refine Finset.sum_congr rfl fun n _ => congrArg (· * wo (ix2 n c)) ?_
  refine (mean_at _ (fun k => v (ix4 0 k ⟨n.val / 128, by omega⟩ ⟨n.val % 128, by omega⟩)) _ i).trans ?_
  simp only [raw_at, queries_at]

end Cert.ReferenceIdeal.Value

end
-- ==== Proof.Value.Equation.lean ====
/-
# The kernel's blocks are the reference's blocks
-/
module

public import proofs.«01_k».proof.Proof.Value.AtIndex
public import proofs.«01_k».proof.Proof.Value.RingSum
public import proofs.«01_k».proof.Proof.Value.PrepAt
public import proofs.«01_k».proof.Proof.Value.Whole
public import Idealize.ShloMosaic.Lib.Layout

@[expose] public section

noncomputable section

namespace Cert.Equation

open Idealize.ShloMosaic Idealize.ShloMosaic.TcCoe Cert.Attention
open Cert.KernelIdeal.Ring (share Ins rowIn)
open Cert.KernelIdeal (nD)
open scoped BigOperators

/-- The five blocks of a device are its parts of the whole arrays. -/
structure Parts (I : Ins Ideal) (x : FVec Ideal Cert.ReferenceIdeal.S1x1024x1024 .bf16) (wq : FVec Ideal Cert.ReferenceIdeal.S1024x4096 .bf16)
    (k v : FVec Ideal Cert.ReferenceIdeal.S1x4096x32x128 .bf16) (wo : FVec Ideal Cert.ReferenceIdeal.S4096x1024 .bf16) : Prop where
  /-- its rows -/
  x : ∀ (c : Fin 4) (r : Fin 256) (z : Fin 1024), I.x c (ix2 r z) = x (ix3 0 ⟨c.val * 256 + r.val, by omega⟩ z)
  /-- its columns of the query weights -/
  wq : ∀ (c : Fin 4) (z n : Fin 1024), I.wq c (ix2 z n) = wq (ix2 z ⟨c.val * 1024 + n.val, by omega⟩)
  /-- its heads' keys -/
  k : ∀ (c cl : Fin 4) (h : Fin 8) (t : Fin 1024) (d : Fin 128),
    I.k c (ix4 cl h t d) = k (ix4 0 (Cert.ReferenceIdeal.Value.key cl t) ⟨c.val * 8 + h.val, by omega⟩ d)
  /-- its heads' values -/
  v : ∀ (c cl : Fin 4) (h : Fin 8) (t : Fin 1024) (d : Fin 128),
    I.v c (ix4 cl h t d) = v (ix4 0 (Cert.ReferenceIdeal.Value.key cl t) ⟨c.val * 8 + h.val, by omega⟩ d)
  /-- its rows of the output weights -/
  wo : ∀ (c : Fin 4) (h : Fin 8) (d : Fin 128) (n : Fin 1024), I.wo c (ix3 h d n) = wo (ix2 ⟨c.val * 1024 + (h.val * 128 + d.val), by omega⟩ n)

variable {I : Ins Ideal} {x : FVec Ideal Cert.ReferenceIdeal.S1x1024x1024 .bf16} {wq : FVec Ideal Cert.ReferenceIdeal.S1024x4096 .bf16}
  {k v : FVec Ideal Cert.ReferenceIdeal.S1x4096x32x128 .bf16} {wo : FVec Ideal Cert.ReferenceIdeal.S4096x1024 .bf16}

/-- One term of the reference's sum: the mean of column `n`, times its output weight. -/
def term (x : FVec Ideal Cert.ReferenceIdeal.S1x1024x1024 .bf16) (wq : FVec Ideal Cert.ReferenceIdeal.S1024x4096 .bf16)
    (k v : FVec Ideal Cert.ReferenceIdeal.S1x4096x32x128 .bf16) (wo : FVec Ideal Cert.ReferenceIdeal.S4096x1024 .bf16)
    (i o : Fin 1024) (cl : Fin 4) (h : Fin 32) (d : Fin 128) : EReal :=
  mean (fun t => (∑ d' : Fin 128, (∑ z : Fin 1024, x (ix3 0 i z) * wq (ix2 z ⟨h.val * 128 + d'.val, by omega⟩))
        * k (ix4 0 (Cert.ReferenceIdeal.Value.key cl t) h d')) * Cert.ReferenceIdeal.Value.scale)
      (fun t => v (ix4 0 (Cert.ReferenceIdeal.Value.key cl t) h d)) * wo (ix2 ⟨h.val * 128 + d.val, by omega⟩ o)

/-- A device's share is the reference's terms of its heads. -/
theorem share_at (P : Parts I x wq k v wo) (d c cl : Fin 4) (r : Fin 64) (o : Fin 1024) :
    share I d (I.x c) (ix2 (rowIn cl r) o) = ∑ h : Fin 8, ∑ dd : Fin 128,
      term x wq k v wo ⟨c.val * 256 + (cl.val * 64 + r.val), by omega⟩ o cl ⟨d.val * 8 + h.val, by omega⟩ dd := by
  unfold share
  rw [Cert.KernelIdeal.Ring.rowsOf_at]
  refine Finset.sum_congr rfl fun h _ => Finset.sum_congr rfl fun dd _ => ?_
  unfold term
  have e : ∀ n : ℕ, d.val * 1024 + (h.val * 128 + n) = (d.val * 8 + h.val) * 128 + n := fun n => by omega
  simp only [Cert.KernelIdeal.Ring.queries_at, P.x, P.wq, P.k, P.v, P.wo, e]
  rfl

/-- The reference's sum by devices, heads and columns. -/
theorem whole_tiles (i o : Fin 1024) :
    Cert.ReferenceIdeal.Value.whole x wq k v wo (ix3 0 i o) = ∑ d : Fin 4, ∑ h : Fin 8, ∑ dd : Fin 128,
      term x wq k v wo i o (Cert.ReferenceIdeal.Value.classOf i) ⟨d.val * 8 + h.val, by omega⟩ dd := by
  have s : ∀ n : Fin 4096, mean (fun t => (∑ d : Fin 128, (∑ z : Fin 1024, x (ix3 0 i z) * wq (ix2 z ⟨n.val / 128 * 128 + d.val, by omega⟩))
            * k (ix4 0 (Cert.ReferenceIdeal.Value.key (Cert.ReferenceIdeal.Value.classOf i) t) ⟨n.val / 128, by omega⟩ d)) * Cert.ReferenceIdeal.Value.scale)
          (fun t => v (ix4 0 (Cert.ReferenceIdeal.Value.key (Cert.ReferenceIdeal.Value.classOf i) t) ⟨n.val / 128, by omega⟩ ⟨n.val % 128, by omega⟩)) * wo (ix2 n o)
      = term x wq k v wo i o (Cert.ReferenceIdeal.Value.classOf i) ⟨n.val / 128, by omega⟩ ⟨n.val % 128, by omega⟩ := fun n => by
    unfold term
    congr 3
    exact Fin.ext (by simp only []; omega)
  rw [Cert.ReferenceIdeal.Value.whole_at]
  simp only [s]
  rw [Fin.sum_univ_tiles 32 128 rfl, Fin.sum_univ_tiles 4 8 rfl]
  refine Finset.sum_congr rfl fun d _ => Finset.sum_congr rfl fun h _ => Finset.sum_congr rfl fun dd _ => ?_
  congr 1
  · exact Fin.ext (by simp only []; omega)
  · exact Fin.ext (by simp only []; omega)

/-- A device's result at an index is the reference's. -/
theorem res_whole (P : Parts I x wq k v wo) (c : Fin 4) (r : Fin 256) (o : Fin 1024) :
    Cert.KernelIdeal.Ring.res I c (ix2 r o)
      = Cert.ReferenceIdeal.Value.whole x wq k v wo (ix3 0 ⟨c.val * 256 + r.val, by omega⟩ o) := by
  obtain ⟨cl, q, hr⟩ : ∃ (cl : Fin 4) (q : Fin 64), r = rowIn cl q :=
    ⟨⟨r.val / 64, by omega⟩, ⟨r.val % 64, by omega⟩, Fin.ext (by simp only []; omega)⟩
  subst hr
  rw [Cert.KernelIdeal.Ring.res_at, whole_tiles]
  refine Finset.sum_congr rfl fun d _ => ?_
  rw [share_at P]
  have e : Cert.ReferenceIdeal.Value.classOf ⟨c.val * 256 + (cl.val * 64 + q.val), by omega⟩ = cl := Fin.ext (by simp only []; omega)
  rw [e]

end Cert.Equation

end
-- ==== Proof.Value.Final.lean ====
/-
# The kernel's result in the memory is the reference's result
-/
module

public import proofs.«01_k».proof.Proof.Value.Equation

@[expose] public section

noncomputable section

namespace Cert.Equation

open Idealize.ShloMosaic Idealize.ShloMosaic.TcCoe
open Cert.KernelIdeal Cert.KernelIdeal.Gen Cert.KernelIdeal.Ring

variable (x : FVec Ideal Cert.ReferenceIdeal.S1x1024x1024 .bf16) (wq : FVec Ideal Cert.ReferenceIdeal.S1024x4096 .bf16)
  (k v : FVec Ideal Cert.ReferenceIdeal.S1x4096x32x128 .bf16) (wo : FVec Ideal Cert.ReferenceIdeal.S4096x1024 .bf16)

/-- A device's rows of an array of rows. -/
theorem rows_at {α : Type} (a : Cert.ReferenceIdeal.S1x1024x1024.Idx → α) (c : Fin 4) (r : Fin 256) (z : Fin 1024) :
    Layout.block ⟨3, ![1, 256, 1024]⟩ ⟨3, ![1, 1024, 1024]⟩ 1 4 c a (by decide) (ix3 0 r z) = a (ix3 0 ⟨c.val * 256 + r.val, by omega⟩ z) := by
  show a _ = a _
  congr 1
  funext b
  match b with
  | ⟨0, _⟩ => rfl
  | ⟨1, _⟩ => rfl
  | ⟨2, _⟩ => rfl

/-- A device's columns of the query weights. -/
theorem cols_at (c : Fin 4) (z n : Fin 1024) :
    Layout.block ⟨2, ![1024, 1024]⟩ ⟨2, ![1024, 4096]⟩ 1 4 c wq (by decide) (ix2 z n) = wq (ix2 z ⟨c.val * 1024 + n.val, by omega⟩) := by
  show wq _ = wq _
  congr 1
  funext b
  match b with
  | ⟨0, _⟩ => rfl
  | ⟨1, _⟩ => rfl

/-- A device's rows of the output weights. -/
theorem outs_at (c : Fin 4) (n z : Fin 1024) :
    Layout.block ⟨2, ![1024, 1024]⟩ ⟨2, ![4096, 1024]⟩ 0 4 c wo (by decide) (ix2 n z) = wo (ix2 ⟨c.val * 1024 + n.val, by omega⟩ z) := by
  show wo _ = wo _
  congr 1
  funext b
  match b with
  | ⟨0, _⟩ => rfl
  | ⟨1, _⟩ => rfl

variable (m : (ℓ : Loc nD τ sig) → Buf (Elt Ideal) ℓ)

/-- Every device's memory holds its parts of the five arrays. -/
structure Held : Prop where
  x : ∀ c : Dev nD, m ((c.tc : Thread nD τ).loc main_arg0) = Layout.block ⟨3, ![1, 256, 1024]⟩ ⟨3, ![1, 1024, 1024]⟩ 1 4 c x
  wq : ∀ c : Dev nD, m ((c.tc : Thread nD τ).loc main_arg1) = Layout.block ⟨2, ![1024, 1024]⟩ ⟨2, ![1024, 4096]⟩ 1 4 c wq
  k : ∀ c : Dev nD, m ((c.tc : Thread nD τ).loc main_arg2) = k
  v : ∀ c : Dev nD, m ((c.tc : Thread nD τ).loc main_arg3) = v
  wo : ∀ c : Dev nD, m ((c.tc : Thread nD τ).loc main_arg4) = Layout.block ⟨2, ![1024, 1024]⟩ ⟨2, ![4096, 1024]⟩ 0 4 c wo

variable {x wq k v wo m}

/-- A device's rows. -/
theorem ins_x (h : Held x wq k v wo m) (c : Fin 4) (r : Fin 256) (z : Fin 1024) :
    (ins (V1 m)).x c (ix2 r z) = x (ix3 0 ⟨c.val * 256 + r.val, by omega⟩ z) := by
  have e : (ins (V1 m)).x c = shapeCast S256x1024 (m ((Dev.tc c : Thread nD τ).loc main_arg0)) shapeCasts_S1x256x1024_S256x1024 := after_x (V0 m c) c
  rw [e, h.x c]
  exact (x_at _ r z).trans (rows_at x c r z)

/-- A device's columns of the query weights. -/
theorem ins_wq (h : Held x wq k v wo m) (c : Fin 4) (z n : Fin 1024) :
    (ins (V1 m)).wq c (ix2 z n) = wq (ix2 z ⟨c.val * 1024 + n.val, by omega⟩) := by
  have e : (ins (V1 m)).wq c = m ((Dev.tc c : Thread nD τ).loc main_arg1) := V1_of m c main_arg1 (by decide)
  rw [e, h.wq c]
  exact cols_at wq c z n

/-- A device's keys. -/
theorem ins_k (h : Held x wq k v wo m) (c cl : Fin 4) (hd : Fin 8) (t : Fin 1024) (d : Fin 128) :
    (ins (V1 m)).k c (ix4 cl hd t d) = k (ix4 0 (Cert.ReferenceIdeal.Value.key cl t) ⟨c.val * 8 + hd.val, by omega⟩ d) := by
  have e : (ins (V1 m)).k c = heads (starts c) (flat (m ((Dev.tc c : Thread nD τ).loc main_arg2))) := after_k (V0 m c) c
  rw [e, h.k c]
  exact heads_at c k cl hd t d

/-- A device's values. -/
theorem ins_v (h : Held x wq k v wo m) (c cl : Fin 4) (hd : Fin 8) (t : Fin 1024) (d : Fin 128) :
    (ins (V1 m)).v c (ix4 cl hd t d) = v (ix4 0 (Cert.ReferenceIdeal.Value.key cl t) ⟨c.val * 8 + hd.val, by omega⟩ d) := by
  have e : (ins (V1 m)).v c = heads (starts c) (flat (m ((Dev.tc c : Thread nD τ).loc main_arg3))) := after_v (V0 m c) c
  rw [e, h.v c]
  exact heads_at c v cl hd t d

/-- A device's rows of the output weights. -/
theorem ins_wo (h : Held x wq k v wo m) (c : Fin 4) (hd : Fin 8) (d : Fin 128) (n : Fin 1024) :
    (ins (V1 m)).wo c (ix3 hd d n) = wo (ix2 ⟨c.val * 1024 + (hd.val * 128 + d.val), by omega⟩ n) := by
  have e : (ins (V1 m)).wo c = shapeCast S8x128x1024 (m ((Dev.tc c : Thread nD τ).loc main_arg4)) shapeCasts_S1024x1024_S8x128x1024 := after_wo (V0 m c) c
  rw [e, h.wo c]
  exact (wo_at _ hd d n).trans (outs_at wo c _ n)

/-- The launched blocks are the devices' parts. -/
theorem parts (h : Held x wq k v wo m) : Parts (ins (V1 m)) x wq k v wo :=
  ⟨ins_x h, ins_wq h, ins_k h, ins_v h, ins_wo h⟩

/-- The result a device ends with, its leading one put back. -/
theorem result_shape (m : (ℓ : Loc nD τ sig) → Buf (Elt Ideal) ℓ) (c : Dev nD) :
    V3 m (Ring.outs m) c main_v26 = shapeCast S1x256x1024 (res (ins (V1 m)) c) shapeCasts_S256x1024_S1x256x1024 := by
  have h : V2 m (Ring.outs m) c main_v25 = res (ins (V1 m)) c := by
    rw [← aft_outs]
    exact Function.update_self (Proc.devRef .tc main_v25) (res (ins (V1 m)) c) (V1 m c)
  rw [← h]
  show StableHlo.after hostOps1 (V2 m (Ring.outs m) c) main_v26 = _
  generalize V2 m (Ring.outs m) c = V
  after_results_simp
  rfl

/-- A block with its leading one put back, at an index. -/
theorem put_at (a : FVec Ideal S256x1024 .f32) (r : Fin 256) (z : Fin 1024) :
    shapeCast S1x256x1024 a shapeCasts_S256x1024_S1x256x1024 (ix3 0 r z) = a (ix2 r z) := by
  pointwise

/-- A device ends with its block of the reference's result. -/
theorem result_eq (h : Held x wq k v wo m) (c : Dev nD) :
    V3 m (Ring.outs m) c main_v26
      = Layout.block ⟨3, ![1, 256, 1024]⟩ ⟨3, ![1, 1024, 1024]⟩ 1 4 c (Cert.ReferenceIdeal.Value.whole x wq k v wo) := by
  rw [result_shape]
  funext j
  obtain ⟨r, z, rfl⟩ : ∃ (r : Fin 256) (z : Fin 1024), j = ix3 0 r z := by
    refine ⟨j 1, j 2, funext fun b => ?_⟩
    match b with
    | ⟨0, _⟩ => exact Subsingleton.elim (α := Fin 1) _ _
    | ⟨1, _⟩ => rfl
    | ⟨2, _⟩ => rfl
  exact (put_at _ r z).trans ((res_whole (parts h) c r z).trans (rows_at _ c r z).symm)

end Cert.Equation

end
-- ==== Proof.lean ====
/-
# The certificate: frames, the idealization, and the equation with the reference

The runs are in Proof/Kernel and Proof/KernelIdeal (one text at two float instances).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Final
public import Idealize.ShloMosaic.Adequacy
public import Idealize.ShloMosaic.Init
public import Idealize.ShloMosaic.Lib.Quiescent

@[expose] public section

noncomputable section

namespace Cert.Proof

open Idealize.ShloMosaic Idealize.SL.Sem

/-- The reference has no semaphores, and its run leaves its arguments as they were. -/
theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems rfl r.2⟩) (Cert.ReferenceIdeal.Value.run (F := Ideal) m g)

/-- Each device ends with its block of the reference's result. -/
theorem equation : Cert.algebraic_KernelIdeal_ReferenceIdeal (hKernelIdeal := Cert.KernelIdeal.Gen.facts)
    (hReferenceIdeal := Cert.ReferenceIdeal.Gen.facts) := fun m g m' g' _ h =>
  ⟨Cert.ReferenceIdeal.Value.res_main_v44 (F := Ideal) m' 0,
    (θ_run Cert.KernelIdeal.defs _ _).mono
      (fun r e c => ⟨(e.1 c).1.trans ((Cert.Equation.result_eq
          ⟨fun c => (h c).1, fun c => (h c).2.1, fun c => (h c).2.2.1, fun c => (h c).2.2.2.1, fun c => (h c).2.2.2.2⟩ c).trans
          (congrArg (fun a => Layout.block ⟨3, ![1, 256, 1024]⟩ ⟨3, ![1, 1024, 1024]⟩ 1 4 c a (by decide)) (Cert.ReferenceIdeal.Value.res_eq m' 0).symm)),
        (e.1 c).2⟩)
      (Cert.KernelIdeal.Ring.run_main (F := Ideal) m g),
    (θ_run Cert.ReferenceIdeal.defs _ _).mono (fun r e => e 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  fun m g _ => (θ_run Cert.Kernel.defs _ _).mono (fun r h => ⟨fun c => (h.1 c).2, h.2⟩) (Cert.Kernel.Ring.run_main (F := Bits) m g),
  fun m g _ => (θ_run Cert.KernelIdeal.defs _ _).mono (fun r h => ⟨fun c => (h.1 c).2, h.2⟩) (Cert.KernelIdeal.Ring.run_main (F := Ideal) m g),
  frame_reference, trivial, equation⟩

end Cert.Proof

end
